-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S50000x960 : Shape := ⟨2, ![50000, 960]⟩
abbrev S50000 : Shape := ⟨1, ![50000]⟩
abbrev S448 : Shape := ⟨1, ![448]⟩
abbrev S50000x256 : Shape := ⟨2, ![50000, 256]⟩
abbrev S_ : Shape := ⟨0, ![]⟩

class Facts : Prop where
  slices_S50000x960_S50000x256_0_0 : S50000x960.Slices ![0, 0] S50000x256
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000 : S_.BroadcastsInDim S50000 (![] : Fin 0 → Fin S50000.rank)
  reducesTo_S50000_S_d0 : S50000.ReducesTo [0] S_

variable [Facts]

def fn {F : FTy → Type} [FloatOps F] (main_arg0 : FVec F S50000x960 .f32) (main_arg1 : IVec S50000 32) (main_arg2 : FVec F S448 .f32) (main_arg3 : FVec F S448 .f32) : IVec S_ 1 :=
  let main_v0 : FVec F S50000x256 .f32 := (extractStridedSlice S50000x256 ![0, 0] · slices_S50000x960_S50000x256_0_0) main_arg0
  let main_v1 : FVec F S50000x256 .f32 := Host.absf main_v0
  let main_cst : FVec F S_ .f32 := constant S_ .f32 0x7F800000#32
  let main_v2 : FVec F S50000x256 .f32 := broadcastInDim S50000x256 ![] bcast_S_S50000x256 main_cst
  let main_v3 : IVec S50000x256 1 := cmpf .olt main_v1 main_v2
  let main_c : IVec S_ 1 := constantI S_ 1 1#1
  let main_v4 : IVec S_ 1 := (fun x v => Host.reduce IntOp.andi x v reducesTo_S50000x256_S_d0_1 h_S_) main_v3 main_c
  let main_c_0 : IVec S_ 32 := constantI S_ 32 0#32
  let main_v5 : IVec S50000 32 := broadcastInDim S50000 ![] bcast_S_S50000 main_c_0
  let main_v6 : IVec S50000 1 := cmpi .sge main_arg1 main_v5
  let main_c_1 : IVec S_ 32 := constantI S_ 32 64#32
  let main_v7 : IVec S50000 32 := broadcastInDim S50000 ![] bcast_S_S50000 main_c_1
  let main_v8 : IVec S50000 1 := cmpi .slt main_arg1 main_v7
  let main_v9 : IVec S50000 1 := andi main_v6 main_v8
  let main_c_2 : IVec S_ 1 := constantI S_ 1 1#1
  let main_v10 : IVec S_ 1 := (fun x v => Host.reduce IntOp.andi x v reducesTo_S50000_S_d0 h_S_) main_v9 main_c_2
  let main_v11 : IVec S_ 1 := andi main_v4 main_v10
  main_v11
-- ==== Kernel.lean ====
abbrev S50000x960 : Shape := ⟨2, ![50000, 960]⟩
abbrev S50000 : Shape := ⟨1, ![50000]⟩
abbrev S448 : Shape := ⟨1, ![448]⟩
abbrev S25x2000x1 : Shape := ⟨3, ![25, 2000, 1]⟩
abbrev S256 : Shape := ⟨1, ![256]⟩
abbrev S128 : Shape := ⟨1, ![128]⟩
abbrev S128x3 : Shape := ⟨2, ![128, 3]⟩
abbrev S384 : Shape := ⟨1, ![384]⟩
abbrev S64 : Shape := ⟨1, ![64]⟩
abbrev S64x5 : Shape := ⟨2, ![64, 5]⟩
abbrev S320 : Shape := ⟨1, ![320]⟩
abbrev S960 : Shape := ⟨1, ![960]⟩
abbrev S1x960 : Shape := ⟨2, ![1, 960]⟩
abbrev S_ : Shape := ⟨0, ![]⟩
abbrev S704 : Shape := ⟨1, ![704]⟩
abbrev S64x960 : Shape := ⟨2, ![64, 960]⟩
abbrev S64x128 : Shape := ⟨2, ![64, 128]⟩
abbrev S2000x960 : Shape := ⟨2, ![2000, 960]⟩
abbrev S1x2000x1 : Shape := ⟨3, ![1, 2000, 1]⟩
abbrev S2000x1 : Shape := ⟨2, ![2000, 1]⟩
abbrev S2000x64 : Shape := ⟨2, ![2000, 64]⟩
abbrev S2000x256 : Shape := ⟨2, ![2000, 256]⟩
abbrev S2000 : Shape := ⟨1, ![2000]⟩
abbrev S2000x126 : Shape := ⟨2, ![2000, 126]⟩
abbrev S2000x128 : Shape := ⟨2, ![2000, 128]⟩
abbrev S64x1 : Shape := ⟨2, ![64, 1]⟩
abbrev S1x256 : Shape := ⟨2, ![1, 256]⟩
abbrev S2000x704 : Shape := ⟨2, ![2000, 704]⟩
abbrev S1x704 : Shape := ⟨2, ![1, 704]⟩

abbrev nBuf : Space → Nat
  | .hbm => 22
  | .vmem => 18
  | .smem => 0
  | _ => 0

abbrev bufTy : (tb : Table) → Fin (tcTables nBuf tb) → BufTy
  | .hbm, ⟨0, _⟩ => ⟨S50000x960, .f32⟩
  | .hbm, ⟨1, _⟩ => ⟨S50000, .i32⟩
  | .hbm, ⟨2, _⟩ => ⟨S448, .f32⟩
  | .hbm, ⟨3, _⟩ => ⟨S448, .f32⟩
  | .hbm, ⟨4, _⟩ => ⟨S25x2000x1, .i32⟩
  | .hbm, ⟨5, _⟩ => ⟨S256, .f32⟩
  | .hbm, ⟨6, _⟩ => ⟨S128, .f32⟩
  | .hbm, ⟨7, _⟩ => ⟨S128x3, .f32⟩
  | .hbm, ⟨8, _⟩ => ⟨S384, .f32⟩
  | .hbm, ⟨9, _⟩ => ⟨S64, .f32⟩
  | .hbm, ⟨10, _⟩ => ⟨S64x5, .f32⟩
  | .hbm, ⟨11, _⟩ => ⟨S320, .f32⟩
  | .hbm, ⟨12, _⟩ => ⟨S960, .f32⟩
  | .hbm, ⟨13, _⟩ => ⟨S1x960, .f32⟩
  | .hbm, ⟨14, _⟩ => ⟨S256, .f32⟩
  | .hbm, ⟨15, _⟩ => ⟨S_, .f32⟩
  | .hbm, ⟨16, _⟩ => ⟨S704, .f32⟩
  | .hbm, ⟨17, _⟩ => ⟨S960, .f32⟩
  | .hbm, ⟨18, _⟩ => ⟨S1x960, .f32⟩
  | .hbm, ⟨19, _⟩ => ⟨S64x960, .f32⟩
  | .hbm, ⟨20, _⟩ => ⟨S64x128, .f32⟩
  | .hbm, ⟨21, _⟩ => ⟨S50000x960, .f32⟩
  | .local _ .vmem, ⟨0, _⟩ => ⟨S2000x960, .f32⟩
  | .local _ .vmem, ⟨1, _⟩ => ⟨S2000x960, .f32⟩
  | .local _ .vmem, ⟨2, _⟩ => ⟨S1x2000x1, .i32⟩
  | .local _ .vmem, ⟨3, _⟩ => ⟨S1x2000x1, .i32⟩
  | .local _ .vmem, ⟨4, _⟩ => ⟨S64x960, .f32⟩
  | .local _ .vmem, ⟨5, _⟩ => ⟨S64x128, .f32⟩
  | .local _ .vmem, ⟨6, _⟩ => ⟨S2000x960, .f32⟩
  | .local _ .vmem, ⟨7, _⟩ => ⟨S2000x960, .f32⟩
  | .local _ .vmem, ⟨8, _⟩ => ⟨S1x2000x1, .i32⟩
  | .local _ .vmem, ⟨9, _⟩ => ⟨S1x2000x1, .i32⟩
  | .local _ .vmem, ⟨10, _⟩ => ⟨S64x960, .f32⟩
  | .local _ .vmem, ⟨11, _⟩ => ⟨S64x128, .f32⟩
  | .local _ .vmem, ⟨12, _⟩ => ⟨S1x960, .f32⟩
  | .local _ .vmem, ⟨13, _⟩ => ⟨S1x960, .f32⟩
  | .local _ .vmem, ⟨14, _⟩ => ⟨S2000x960, .f32⟩
  | .local _ .vmem, ⟨15, _⟩ => ⟨S2000x960, .f32⟩
  | .local _ .vmem, ⟨16, _⟩ => ⟨S64x960, .f32⟩
  | .local _ .vmem, ⟨17, _⟩ => ⟨S64x128, .f32⟩
  | _, _ => ⟨S50000x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x960 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x960 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x960 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x960 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x960 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S50000x960 : Shape := ⟨2, ![50000, 960]⟩
abbrev S50000 : Shape := ⟨1, ![50000]⟩
abbrev S448 : Shape := ⟨1, ![448]⟩
abbrev S_ : Shape := ⟨0, ![]⟩
abbrev S64 : Shape := ⟨1, ![64]⟩
abbrev S50000x1 : Shape := ⟨2, ![50000, 1]⟩
abbrev S50000x256 : Shape := ⟨2, ![50000, 256]⟩
abbrev S50000x256x1 : Shape := ⟨3, ![50000, 256, 1]⟩
abbrev S64x256x1 : Shape := ⟨3, ![64, 256, 1]⟩
abbrev S64x1x1 : Shape := ⟨3, ![64, 1, 1]⟩
abbrev S64x1 : Shape := ⟨2, ![64, 1]⟩
abbrev S50000x1x1 : Shape := ⟨3, ![50000, 1, 1]⟩
abbrev S256 : Shape := ⟨1, ![256]⟩
abbrev S1x256x1 : Shape := ⟨3, ![1, 256, 1]⟩
abbrev S50000x384 : Shape := ⟨2, ![50000, 384]⟩
abbrev S50000x128x3 : Shape := ⟨3, ![50000, 128, 3]⟩
abbrev S64x128x3 : Shape := ⟨3, ![64, 128, 3]⟩
abbrev S64x3 : Shape := ⟨2, ![64, 3]⟩
abbrev S64x1x3 : Shape := ⟨3, ![64, 1, 3]⟩
abbrev S50000x1x3 : Shape := ⟨3, ![50000, 1, 3]⟩
abbrev S128 : Shape := ⟨1, ![128]⟩
abbrev S1x128x1 : Shape := ⟨3, ![1, 128, 1]⟩
abbrev S50000x320 : Shape := ⟨2, ![50000, 320]⟩
abbrev S50000x64x5 : Shape := ⟨3, ![50000, 64, 5]⟩
abbrev S64x64x5 : Shape := ⟨3, ![64, 64, 5]⟩
abbrev S64x5 : Shape := ⟨2, ![64, 5]⟩
abbrev S64x1x5 : Shape := ⟨3, ![64, 1, 5]⟩
abbrev S50000x1x5 : Shape := ⟨3, ![50000, 1, 5]⟩
abbrev S1x64x1 : Shape := ⟨3, ![1, 64, 1]⟩

abbrev nBuf : Space → Nat
  | .hbm => 140
  | .vmem => 0
  | .smem => 0
  | _ => 0

abbrev hbmTy0_0 (i : Nat) : BufTy := match i % 128 with
  | 0 => ⟨S50000x960, .f32⟩
  | 1 => ⟨S50000, .i32⟩
  | 2 => ⟨S448, .f32⟩
  | 3 => ⟨S448, .f32⟩
  | 4 => ⟨S_, .f32⟩
  | 5 => ⟨S50000, .f32⟩
  | 6 => ⟨S_, .f32⟩
  | 7 => ⟨S64, .f32⟩
  | 8 => ⟨S50000x1, .i32⟩
  | 9 => ⟨S64, .f32⟩
  | 10 => ⟨S_, .f32⟩
  | 11 => ⟨S64, .f32⟩
  | 12 => ⟨S64, .f32⟩
  | 13 => ⟨S50000x256, .f32⟩
  | 14 => ⟨S50000x256x1, .f32⟩
  | 15 => ⟨S_, .f32⟩
  | 16 => ⟨S64x256x1, .f32⟩
  | 17 => ⟨S50000x1, .i32⟩
  | 18 => ⟨S64x256x1, .f32⟩
  | 19 => ⟨S64x1x1, .f32⟩
  | 20 => ⟨S64x256x1, .f32⟩
  | 21 => ⟨S64x256x1, .f32⟩
  | 22 => ⟨S_, .f32⟩
  | 23 => ⟨S64x1, .f32⟩
  | 24 => ⟨S64x1x1, .f32⟩
  | 25 => ⟨S_, .f32⟩
  | 26 => ⟨S64x1x1, .f32⟩
  | 27 => ⟨S64x1x1, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x1x1, .f32⟩
  | 37 => ⟨S50000x256x1, .f32⟩
  | 38 => ⟨S50000x256x1, .f32⟩
  | 39 => ⟨S50000x256x1, .f32⟩
  | 40 => ⟨S_, .f32⟩
  | 41 => ⟨S64x256x1, .f32⟩
  | 42 => ⟨S50000x1, .i32⟩
  | 43 => ⟨S64x256x1, .f32⟩
  | 44 => ⟨S64x1x1, .f32⟩
  | 45 => ⟨S64x256x1, .f32⟩
  | 46 => ⟨S64x256x1, .f32⟩
  | 47 => ⟨S_, .f32⟩
  | 48 => ⟨S64, .f32⟩
  | 49 => ⟨S64x1x1, .f32⟩
  | 50 => ⟨S_, .f32⟩
  | 51 => ⟨S64x1x1, .f32⟩
  | 52 => ⟨S64x1x1, .f32⟩
  | 53 => ⟨S64x1x1, .f32⟩
  | 54 => ⟨S_, .i32⟩
  | 55 => ⟨S50000, .i32⟩
  | 56 => ⟨S50000, .i1⟩
  | 57 => ⟨S_, .i32⟩
  | 58 => ⟨S50000, .i32⟩
  | 59 => ⟨S50000, .i32⟩
  | 60 => ⟨S50000, .i32⟩
  | 61 => ⟨S50000x1, .i32⟩
  | 62 => ⟨S50000x1x1, .f32⟩
  | 63 => ⟨S_, .f32⟩
  | 64 => ⟨S50000x1x1, .f32⟩
  | 65 => ⟨S50000x1x1, .f32⟩
  | 66 => ⟨S50000x256x1, .f32⟩
  | 67 => ⟨S50000x256x1, .f32⟩
  | 68 => ⟨S256, .f32⟩
  | 69 => ⟨S256, .f32⟩
  | 70 => ⟨S1x256x1, .f32⟩
  | 71 => ⟨S50000x256x1, .f32⟩
  | 72 => ⟨S50000x256x1, .f32⟩
  | 73 => ⟨S1x256x1, .f32⟩
  | 74 => ⟨S50000x256x1, .f32⟩
  | 75 => ⟨S50000x256x1, .f32⟩
  | 76 => ⟨S50000x256, .f32⟩
  | 77 => ⟨S50000x384, .f32⟩
  | 78 => ⟨S50000x128x3, .f32⟩
  | 79 => ⟨S_, .f32⟩
  | 80 => ⟨S64x128x3, .f32⟩
  | 81 => ⟨S50000x1, .i32⟩
  | 82 => ⟨S64x128x3, .f32⟩
  | 83 => ⟨S64x1x1, .f32⟩
  | 84 => ⟨S64x128x3, .f32⟩
  | 85 => ⟨S64x128x3, .f32⟩
  | 86 => ⟨S_, .f32⟩
  | 87 => ⟨S64x3, .f32⟩
  | 88 => ⟨S64x1x3, .f32⟩
  | 89 => ⟨S_, .f32⟩
  | 90 => ⟨S64x1x3, .f32⟩
  | 91 => ⟨S64x1x3, .f32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S50000x1x3, .f32⟩
  | 101 => ⟨S50000x128x3, .f32⟩
  | 102 => ⟨S50000x128x3, .f32⟩
  | 103 => ⟨S128, .f32⟩
  | 104 => ⟨S1x128x1, .f32⟩
  | 105 => ⟨S50000x128x3, .f32⟩
  | 106 => ⟨S50000x128x3, .f32⟩
  | 107 => ⟨S50000x384, .f32⟩
  | 108 => ⟨S50000x320, .f32⟩
  | 109 => ⟨S50000x64x5, .f32⟩
  | 110 => ⟨S_, .f32⟩
  | 111 => ⟨S64x64x5, .f32⟩
  | 112 => ⟨S50000x1, .i32⟩
  | 113 => ⟨S64x64x5, .f32⟩
  | 114 => ⟨S64x1x1, .f32⟩
  | 115 => ⟨S64x64x5, .f32⟩
  | 116 => ⟨S64x64x5, .f32⟩
  | 117 => ⟨S_, .f32⟩
  | 118 => ⟨S64x5, .f32⟩
  | 119 => ⟨S64x1x5, .f32⟩
  | 120 => ⟨S_, .f32⟩
  | 121 => ⟨S64x1x5, .f32⟩
  | 122 => ⟨S64x1x5, .f32⟩
  | 123 => ⟨S_, .i32⟩
  | 124 => ⟨S50000, .i32⟩
  | 125 => ⟨S50000, .i1⟩
  | 126 => ⟨S_, .i32⟩
  | 127 => ⟨S50000, .i32⟩
  | _ => ⟨S50000x960, .f32⟩

abbrev hbmTy0_1 (i : Nat) : BufTy := match i % 128 with
  | 0 => ⟨S50000, .i32⟩
  | 1 => ⟨S50000, .i32⟩
  | 2 => ⟨S50000x1, .i32⟩
  | 3 => ⟨S50000x1x5, .f32⟩
  | 4 => ⟨S50000x64x5, .f32⟩
  | 5 => ⟨S50000x64x5, .f32⟩
  | 6 => ⟨S64, .f32⟩
  | 7 => ⟨S1x64x1, .f32⟩
  | 8 => ⟨S50000x64x5, .f32⟩
  | 9 => ⟨S50000x64x5, .f32⟩
  | 10 => ⟨S50000x320, .f32⟩
  | 11 => ⟨S50000x960, .f32⟩
  | _ => ⟨S50000x960, .f32⟩

abbrev hbmTy (i : Nat) : BufTy := match i / 128 with
  | 0 => hbmTy0_0 i
  | 1 => hbmTy0_1 i
  | _ => ⟨S50000x960, .f32⟩

abbrev bufTy : (tb : Table) → Fin (tcTables nBuf tb) → BufTy
  | .hbm, ⟨i, _⟩ => hbmTy i
  | _, _ => ⟨S50000x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_c_15 : Ref sig .tc := ⟨.hbm, 92, rfl⟩
abbrev main_v71 : Ref sig .tc := ⟨.hbm, 93, rfl⟩
abbrev main_v72 : Ref sig .tc := ⟨.hbm, 94, rfl⟩
abbrev main_c_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_17 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_18 : Ref sig .tc := ⟨.hbm, 117, rfl⟩
abbrev main_v93 : Ref sig .tc := ⟨.hbm, 118, rfl⟩
abbrev main_v94 : Ref sig .tc := ⟨.hbm, 119, rfl⟩
abbrev main_cst_19 : Ref sig .tc := ⟨.hbm, 120, rfl⟩
abbrev main_v95 : Ref sig .tc := ⟨.hbm, 121, rfl⟩
abbrev main_v96 : Ref sig .tc := ⟨.hbm, 122, rfl⟩
abbrev main_c_20 : Ref sig .tc := ⟨.hbm, 123, rfl⟩
abbrev main_v97 : Ref sig .tc := ⟨.hbm, 124, rfl⟩
abbrev main_v98 : Ref sig .tc := ⟨.hbm, 125, rfl⟩
abbrev main_c_21 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩

abbrev nD : Nat := 1
abbrev τ : Topo := Topo.v7x

variable {F : FTy → Type} [FloatOps F]
-- ==== Proof.Run.Sums.lean ====
/- The first launch of the kernel: the running per-segment sums.

   Every grid point reads one block of 2000 rows of the features and the 2000 segment numbers of these rows, and adds
   their per-segment sums to two running buffers, which the first point starts from zero. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The offsets of a whole two-axis buffer are all zero. -/
theorem off2 : (![0, 0] : Fin 2 → Nat) = fun _ => 0 := funext fun a => by fin_cases a <;> rfl
/-- The offsets of a whole three-axis buffer are all zero. -/
theorem off3 : (![0, 0, 0] : Fin 3 → Nat) = fun _ => 0 := funext fun a => by fin_cases a <;> rfl

/-- The kernel's test whether it is at the first grid point. -/
abbrev AtFirst (i : grid0.Coords) : Prop :=
  (Scalar.cmpi .ne (Scalar.extui (Scalar.cmpi .eq (BitVec.ofNat 32 (i 0).val) 0#32)) 0#32) = 1#1

/-- It succeeds at point 0 and nowhere else. -/
theorem atFirst_iff (t : Fin cfg0.N) : AtFirst (grid0.coords t) ↔ t.val = 0 := by
  have ht : t.val < 25 := Nat.lt_of_lt_of_eq t.isLt N_0
  have e0 : (grid0.coords t 0).val = t.val / 1 % 25 := Pipeline.Grid.coords_val t 0 (by decide) rfl
  have key : AtFirst (grid0.coords t) ↔ t.val % 25 = 0 := by
    simp only [AtFirst, e0]
    word_cmp
  rw [key]; omega

section Body

variable (c : Dev nD) (i : grid0.Coords)
  (arg1 : Memref sig .tc .vmem S2000x960 .f32) (harg1 : arg1.IsWhole)
  (arg2 : Memref sig .tc .vmem S1x2000x1 .i32) (harg2 : arg2.IsWhole)
  (arg3 : Memref sig .tc .vmem S64x960 .f32) (harg3 : arg3.IsWhole)
  (arg4 : Memref sig .tc .vmem S64x128 .f32) (harg4 : arg4.IsWhole)
  (x : Vec F S2000x960 .f32) (b : Vec F S1x2000x1 .i32)

/-- What the body is left with: the two inputs as they were, the running sums at `s` and `q`. -/
abbrev sumsHeld (s : Vec F S64x960 .f32) (q : Vec F S64x128 .f32) : sProp 𝕄 :=
  iprop(owns (c : Thread nD τ) arg1 fullShare x ∗ owns (c : Thread nD τ) arg2 fullShare b
    ∗ owns (c : Thread nD τ) arg3 fullShare s ∗ owns (c : Thread nD τ) arg4 fullShare q)

set_option maxHeartbeats 1000000 in
/-- At the first point the body clears the two running buffers, whatever they held, and adds the block's sums. -/
theorem body_first (hc : AtFirst i) (E : Set ℕ) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ (sumsHeld c arg1 arg2 arg3 arg4 x b (k0_pay4 x b k0_pay1) (k0_pay5 x b k0_pay2) -∗ K ⟨⟩))
      ⊢ wp frame (wpE (defs₀ (F := F)) Variants.none c none) E
          (cc0__p1_body i arg1 harg1 arg2 harg2 arg3 harg3 arg4 harg4) K := by
  simp only [cc0__p1_body_eq_skeleton]; unfold cc0__p1_body_skel
  unfold sumsHeld owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (View.cover_of_tiledL _ S64x960.size (by sl_kernel_rfl))]
    try sl_unfold_words
    rw [View.canon_cons_unit_zero (S := S64x960) off2, View.readCov_unit_zero (S := S64x960) _ off2]
    simp only [View.readAt_eq_ld, harg1.read_unread, harg2.read_unread, View.ld_unit_zero (S := S1x2000x1) off3,
      View.ld_unit_zero (S := S2000x960) off2, shapeCast_self]
  · iexists _; isplitr
    swap; · iexact H3
    ipureintro
    rw [View.read_writes_eq_canon _ _ _ (View.cover_of_tiledL _ S64x128.size (by sl_kernel_rfl))]
    try sl_unfold_words
    rw [View.canon_cons_unit_zero (S := S64x128) off2, View.readCov_unit_zero (S := S64x128) _ off2]
    simp only [View.readAt_eq_ld, harg1.read_unread, harg2.read_unread, View.ld_unit_zero (S := S1x2000x1) off3,
      View.ld_unit_zero (S := S2000x960) off2, shapeCast_self]

set_option maxHeartbeats 1000000 in
/-- At a later point the body adds the block's sums to what the two running buffers hold. -/
theorem body_later (hc : ¬ AtFirst i) (s : Vec F S64x960 .f32) (q : Vec F S64x128 .f32) (E : Set ℕ) (K : PUnit → sProp 𝕄) :
    iprop(sumsHeld c arg1 arg2 arg3 arg4 x b s q
        ∗ (sumsHeld c arg1 arg2 arg3 arg4 x b (k0_pay4 x b s) (k0_pay5 x b q) -∗ K ⟨⟩))
      ⊢ wp frame (wpE (defs₀ (F := F)) Variants.none c none) E
          (cc0__p1_body i arg1 harg1 arg2 harg2 arg3 harg3 arg4 harg4) K := by
  simp only [cc0__p1_body_eq_skeleton]; unfold cc0__p1_body_skel
  unfold sumsHeld owns
  iintro ⟨⟨⟨%f0, %hf0, H0⟩, ⟨%f1, %hf1, H1⟩, ⟨%f2, %hf2, H2⟩, ⟨%f3, %hf3, H3⟩⟩, Hk⟩
  obtain rfl := harg1.eq_unread hf0; obtain rfl := harg2.eq_unread hf1
  obtain rfl := harg3.eq_unread hf2; obtain rfl := harg4.eq_unread hf3
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (View.cover_of_tiledL _ S64x960.size (by sl_kernel_rfl))]
    try sl_unfold_words
    rw [View.canon_unit_zero off2]
    simp only [View.readAt_eq_ld, harg1.read_unread, harg2.read_unread, harg3.read_unread,
      View.ld_unit_zero (S := S1x2000x1) off3, View.ld_unit_zero (S := S2000x960) off2,
      View.ld_unit_zero (S := S64x960) off2, shapeCast_self]
  · iexists _; isplitr
    swap; · iexact H3
    ipureintro
    rw [View.read_writes_eq_canon _ _ _ (View.cover_of_tiledL _ S64x128.size (by sl_kernel_rfl))]
    try sl_unfold_words
    rw [View.canon_unit_zero off2]
    simp only [View.readAt_eq_ld, harg1.read_unread, harg2.read_unread, harg4.read_unread,
      View.ld_unit_zero (S := S1x2000x1) off3, View.ld_unit_zero (S := S2000x960) off2,
      View.ld_unit_zero (S := S64x128) off2, shapeCast_self]

end Body

end Cert.KernelIdeal.Norm

end
-- ==== Proof.Run.SumsData.lean ====
/- The first launch's pipeline: what every staging buffer holds after every grid point, and the body's obligation. -/
module

public import proofs.«01_k».proof.Proof.Run.Sums

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the launch is entered
variable (V : (c : Dev nD) → (b : Ref sig .tc) → Buf (Elt F) ((c : Thread nD τ).loc b))

/-- Window `w`'s block at point `t`, of its array as the launch finds it. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The two running sums after point `n`. -/
def sumsAt (c : Dev nD) : (n : ℕ) → n < cfg0.N → Vec F S64x960 .f32 × Vec F S64x128 .f32
  | 0, h => (k0_pay4 (blk0 V c 0 ⟨0, h⟩) (blk0 V c 1 ⟨0, h⟩) k0_pay1,
      k0_pay5 (blk0 V c 0 ⟨0, h⟩) (blk0 V c 1 ⟨0, h⟩) k0_pay2)
  | n + 1, h => (k0_pay4 (blk0 V c 0 ⟨n + 1, h⟩) (blk0 V c 1 ⟨n + 1, h⟩) (sumsAt c n (Nat.lt_of_succ_lt h)).1,
      k0_pay5 (blk0 V c 0 ⟨n + 1, h⟩) (blk0 V c 1 ⟨n + 1, h⟩) (sumsAt c n (Nat.lt_of_succ_lt h)).2)

/-- At the first point they are the block's sums alone. -/
theorem sumsAt_first (c : Dev nD) (t : Fin cfg0.N) (h : t.val = 0) :
    sumsAt V c t.val t.isLt = (k0_pay4 (blk0 V c 0 t) (blk0 V c 1 t) k0_pay1, k0_pay5 (blk0 V c 0 t) (blk0 V c 1 t) k0_pay2) := by
  obtain ⟨n, hn⟩ := t
  cases n with
  | zero => rfl
  | succ n => exact absurd h (Nat.succ_ne_zero n)

/-- At a later point they are the block's sums added to what the point before left. -/
theorem sumsAt_later (c : Dev nD) (t : Fin cfg0.N) (h : ¬ t.val = 0) :
    sumsAt V c t.val t.isLt
      = (k0_pay4 (blk0 V c 0 t) (blk0 V c 1 t) (sumsAt V c (t.val - 1) (Nat.lt_of_le_of_lt (Nat.sub_le _ _) t.isLt)).1,
        k0_pay5 (blk0 V c 0 t) (blk0 V c 1 t) (sumsAt V c (t.val - 1) (Nat.lt_of_le_of_lt (Nat.sub_le _ _) t.isLt)).2) := by
  obtain ⟨n, hn⟩ := t
  cases n with
  | zero => exact absurd rfl h
  | succ n => rfl

/-- The first launch's proof data on core `c`: the arrays as the launch finds them; after each point the two inputs'
    buffers at their blocks and the two outputs' at the running sums; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (sumsAt V c t.val t.isLt).1
    | ⟨3, _⟩ => (sumsAt V c t.val t.isLt).2
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = (sumsAt V c t.val t.isLt).1 := by dsimp only [dat0]
theorem dat0_after3 (c : Dev nD) (t : Fin cfg0.N) : (dat0 V c).after 3 t = (sumsAt V c t.val t.isLt).2 := by dsimp only [dat0]

/-- Before every point an input's buffer holds what it holds after it: the point's block. -/
theorem dat0_before (c : Dev nD) (w : Fin cfg0.W) (hw : (cfg0.win w).isOut = false) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl)
        (fun t => by unfold Dat.blockOf; rw [dat0_A]; rfl) t d).trans
        (by unfold Dat.fetched Dat.blockOf; rw [dat0_A]; rfl)
/-- Before a later point the first output's buffer holds the sums the point before left. -/
theorem dat0_before2 (c : Dev nD) (t : Fin cfg0.N) (h : ¬ t.val = 0) (d) :
    (dat0 V c).before 2 t d = (sumsAt V c (t.val - 1) (Nat.lt_of_le_of_lt (Nat.sub_le _ _) t.isLt)).1 := by
  have hN : t.val < 25 := lt_of_lt_of_eq t.isLt (show cfg0.N = 25 from N_0)
  rw [Dat.before_out_kept _ 2 rfl t (by omega)
    (Bool.eq_false_iff.mpr fun h => by have := (flush0_2 _).mp h; dsimp only at this; omega) (fun _ => rfl) (fun _ _ => rfl)]
  dsimp only [dat0]
/-- Before a later point the second output's buffer holds the sums the point before left. -/
theorem dat0_before3 (c : Dev nD) (t : Fin cfg0.N) (h : ¬ t.val = 0) (d) :
    (dat0 V c).before 3 t d = (sumsAt V c (t.val - 1) (Nat.lt_of_le_of_lt (Nat.sub_le _ _) t.isLt)).2 := by
  have hN : t.val < 25 := lt_of_lt_of_eq t.isLt (show cfg0.N = 25 from N_0)
  rw [Dat.before_out_kept _ 3 rfl t (by omega)
    (Bool.eq_false_iff.mpr fun h => by have := (flush0_3 _).mp h; dsimp only at this; omega) (fun _ => rfl) (fun _ _ => rfl)]
  dsimp only [dat0]

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d)))

/-- What it returns. -/
def post0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t))

/-- The body at any point takes the one to the other. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before V c 0 rfl, dat0_before V c 1 rfl]
  rw [show (dat0 V c).Φ t.succ = (dat0 V c).Φ t.castSucc from rfl,
    show (dat0 V c).owesAt () t.succ = (dat0 V c).owesAt () t.castSucc from rfl,
    dat0_after0, dat0_after1, dat0_after2, dat0_after3]
  by_cases h0 : t.val = 0
  · rw [sumsAt_first V c t h0]
    iintro ⟨HΦ, Ho, ⟨%d0, H0⟩, ⟨%d1, H1⟩, ⟨%d2, H2⟩, ⟨%d3, H3⟩⟩
    iapply (body_first c (grid0.coords t) _ _ _ _ _ _ _ _ (blk0 V c 0 t) (blk0 V c 1 t) ((atFirst_iff t).mpr h0) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [sumsAt_later V c t h0]
    simp only [dat0_before2 V c t h0, dat0_before3 V c t h0]
    iintro ⟨HΦ, Ho, ⟨%d0, H0⟩, ⟨%d1, H1⟩, ⟨%d2, H2⟩, ⟨%d3, H3⟩⟩
    iapply (body_later c (grid0.coords t) _ _ _ _ _ _ _ _ (blk0 V c 0 t) (blk0 V c 1 t)
      (fun h => h0 ((atFirst_iff t).mp h)) _ _ Set.univ _)
    isplitl [H0 H1 H2 H3]
    · isplitl [H0]; · iexact H0
      isplitl [H1]; · iexact H1
      isplitl [H2]; · iexact H2
      iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body table's row at a point's staging buffers is the body there. -/
theorem row0 (t : Fin cfg0.N) : defs₀ (F := F) .tc cfg0.body (cfg0.bodyArgs t (cfg0.slots t)) = bodyAt0 t := by
  unfold defs₀; rw [Defs.onTc_tc]

/-- The first launch's body meets its obligation at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

end Cert.KernelIdeal.Norm

end
-- ==== Proof.Run.Apply.lean ====
/- The second launch of the kernel: the per-segment mean and inverse norm, and the normalised block.

   The first grid point computes the table of means and the table of inverse norms from the segment sums into two scratch
   buffers; every point then normalises its block of 2000 rows with the two tables. -/
module

public import proofs.«01_k».proof.Proof.Run.Sums

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The table of means, from the segment sums and the column of segment counts. -/
def meanTable (s : Vec F S64x960 .f32) (n : Vec F S64x1 .f32) : FVec F S64x960 .f32 :=
  have v38 := k1_pay1 s
  have v42 := k1_pay2 n
  have v45 : IVec S64x960 32 := iota .tc S64x960 32 [1] iota_S64x960_d1_w32
  have v110 := k1_pay10 v38 v42 v45 k1_pay4 (k1_pay8 s n)
  have v140 := k1_pay13 v38 v42 k1_pay4 (k1_pay9 v45) v110 (k1_pay11 v45 k1_pay4) (k1_pay12 v38 v42 v45 k1_pay4)
    (Scalar.ofBits .f32 0x00000000#32)
  have v158 := k1_pay14 v45
  have v203 := k1_pay17 v38 v42 k1_pay5 v140 v158 (k1_pay15 v45 k1_pay5) (k1_pay16 v38 v45 k1_pay5)
  k1_pay20 v38 v42 k1_pay5 v158 v203 (k1_pay18 k1_pay5 v158) (k1_pay19 v38 k1_pay5 v158)

/-- The table of inverse norms, from the segment sums and the columns of segment counts and of sums of squares. -/
def invTable (s : Vec F S64x960 .f32) (n q : Vec F S64x1 .f32) : FVec F S64x128 .f32 :=
  k1_pay22 (k1_pay21 (k1_pay7 s n q))

/-- Column 0 of the second running sum: the segment counts. -/
abbrev countCol (a : Vec F S64x128 .f32) : Vec F S64x1 .f32 :=
  View.ld a (Rect.unit (s := S64x128) ![0, 0] S64x1.size inb_S64x128_S64x1_0_0)
/-- Column 1 of the second running sum: the segment sums of squares. -/
abbrev squareCol (a : Vec F S64x128 .f32) : Vec F S64x1 .f32 :=
  View.ld a (Rect.unit (s := S64x128) ![0, 1] S64x1.size inb_S64x128_S64x1_0_1)

/-- The normalised block: its first 256 columns and the remaining 704 are computed apart. -/
def normBlock (x : Vec F S2000x960 .f32) (b : Vec F S1x2000x1 .i32) (w z : Vec F S1x960 .f32)
    (mean : Vec F S64x960 .f32) (inv : Vec F S64x128 .f32) : Vec F S2000x960 .f32 :=
  View.canon (Val := Elt F)
    [(⟨Rect.unit (s := S2000x960) ![0, 256] S2000x704.size inb_S2000x960_S2000x704_0_256, k1_pay27 x b mean w⟩ :
        View.Piece (Elt F) S2000x960 .f32),
      ⟨Rect.unit (s := S2000x960) ![0, 0] S2000x256.size inb_S2000x960_S2000x256_0_0,
        k1_pay26 x b mean inv w (View.ld z (Rect.unit (s := S1x960) ![0, 0] S1x256.size inb_S1x960_S1x256_0_0))⟩]

section Body

variable (c : Dev nD) (i : grid1.Coords)
  (arg1 : Memref sig .tc .vmem S2000x960 .f32) (harg1 : arg1.IsWhole)
  (arg2 : Memref sig .tc .vmem S1x2000x1 .i32) (harg2 : arg2.IsWhole)
  (arg3 : Memref sig .tc .vmem S64x960 .f32) (harg3 : arg3.IsWhole)
  (arg4 : Memref sig .tc .vmem S64x128 .f32) (harg4 : arg4.IsWhole)
  (arg5 : Memref sig .tc .vmem S1x960 .f32) (harg5 : arg5.IsWhole)
  (arg6 : Memref sig .tc .vmem S1x960 .f32) (harg6 : arg6.IsWhole)
  (arg7 : Memref sig .tc .vmem S2000x960 .f32) (harg7 : arg7.IsWhole)
  (arg8 : Memref sig .tc .vmem S64x960 .f32) (harg8 : arg8.IsWhole)
  (arg9 : Memref sig .tc .vmem S64x128 .f32) (harg9 : arg9.IsWhole)
  (x : Vec F S2000x960 .f32) (b : Vec F S1x2000x1 .i32) (s : Vec F S64x960 .f32) (a : Vec F S64x128 .f32)
  (w z : Vec F S1x960 .f32)

/-- The six inputs of the body at their contents. -/
abbrev inputsHeld : sProp 𝕄 :=
  iprop(owns (c : Thread nD τ) arg1 fullShare x ∗ owns (c : Thread nD τ) arg2 fullShare b
    ∗ owns (c : Thread nD τ) arg3 fullShare s ∗ owns (c : Thread nD τ) arg4 fullShare a
    ∗ owns (c : Thread nD τ) arg5 fullShare w ∗ owns (c : Thread nD τ) arg6 fullShare z)

/-- What the body is left with: its inputs as they were, the normalised block, the two tables. -/
abbrev normHeld (mean : Vec F S64x960 .f32) (inv : Vec F S64x128 .f32) : sProp 𝕄 :=
  iprop(inputsHeld c arg1 arg2 arg3 arg4 arg5 arg6 x b s a w z
    ∗ owns (c : Thread nD τ) arg7 fullShare (normBlock x b w z mean inv)
    ∗ owns (c : Thread nD τ) arg8 fullShare mean ∗ owns (c : Thread nD τ) arg9 fullShare inv)

set_option maxHeartbeats 4000000 in
/-- At the first point the body computes the two tables from the segment sums and normalises its block with them. -/
theorem norm_first (hc : AtFirst i) (E : Set ℕ) (K : PUnit → sProp 𝕄) :
    iprop(inputsHeld c arg1 arg2 arg3 arg4 arg5 arg6 x b s a w z
        ∗ (∃ d, owns (c : Thread nD τ) arg7 fullShare d) ∗ (∃ d, owns (c : Thread nD τ) arg8 fullShare d)
        ∗ (∃ d, owns (c : Thread nD τ) arg9 fullShare d)
        ∗ (normHeld c arg1 arg2 arg3 arg4 arg5 arg6 arg7 arg8 arg9 x b s a w z
            (meanTable s (countCol a)) (invTable s (countCol a) (squareCol a)) -∗ K ⟨⟩))
      ⊢ wp frame (wpE (defs₀ (F := F)) Variants.none c none) E
          (cc1__p2_body i arg1 harg1 arg2 harg2 arg3 harg3 arg4 harg4 arg5 harg5 arg6 harg6 arg7 harg7 arg8 harg8 arg9 harg9) K := by
  simp only [cc1__p2_body_eq_skeleton]; unfold cc1__p2_body_skel
  simp only [k1_part6_eq_skeleton, k1_part1_eq_skeleton, k1_part2_eq_skeleton, k1_part3_eq_skeleton, k1_part4_eq_skeleton,
    k1_part5_eq_skeleton]
  unfold normHeld inputsHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
    ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | sl_exact hc)
  sl_step
  iapply Hk
  isplitl [H0 H1 H2 H3 H4 H5]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; · ipureintro; exact harg6.read_unread _
    iexact H5
  isplitl [H6]
  · iexists _; isplitr
    swap; · iexact H6
    ipureintro
    rw [View.read_writes_eq_canon _ _ _ (View.cover_of_tiledBy _ ![2000, 64] (by sl_kernel_rfl))]
    try sl_unfold_words
    simp only [View.readCov_unit_zero (S := S64x960) _ off2, View.readCov_unit_zero (S := S64x128) _ off2,
      View.readAt_eq_ld, harg1.read_unread, harg2.read_unread, harg3.read_unread, harg4.read_unread,
      harg5.read_unread, harg6.read_unread, View.ld_unit_zero (S := S1x2000x1) off3, View.ld_unit_zero (S := S2000x960) off2,
      View.ld_unit_zero (S := S64x960) off2, View.ld_unit_zero (S := S1x960) off2]
    rfl
  isplitl [H7]
  · iexists _; isplitr
    swap; · iexact H7
    ipureintro
    rw [View.read_writes_eq_canon _ _ _ (View.cover_of_tiledL _ S64x960.size (by sl_kernel_rfl))]
    try sl_unfold_words
    rw [View.canon_unit_zero off2]
    simp only [View.readAt_eq_ld, harg3.read_unread, harg4.read_unread, View.ld_unit_zero (S := S64x960) off2]
    rfl
  iexists _; isplitr
  swap; · iexact H8
  ipureintro
  rw [View.read_writes_eq_canon _ _ _ (View.cover_of_tiledL _ S64x128.size (by sl_kernel_rfl))]
  try sl_unfold_words
  rw [View.canon_unit_zero off2]
  simp only [View.readAt_eq_ld, harg3.read_unread, harg4.read_unread, View.ld_unit_zero (S := S64x960) off2]
  rfl

set_option maxHeartbeats 4000000 in
/-- At a later point the body normalises its block with the two tables as it finds them, and leaves them as they were. -/
theorem norm_later (hc : ¬ AtFirst i) (mean : Vec F S64x960 .f32) (inv : Vec F S64x128 .f32) (E : Set ℕ)
    (K : PUnit → sProp 𝕄) :
    iprop(inputsHeld c arg1 arg2 arg3 arg4 arg5 arg6 x b s a w z
        ∗ (∃ d, owns (c : Thread nD τ) arg7 fullShare d) ∗ owns (c : Thread nD τ) arg8 fullShare mean
        ∗ owns (c : Thread nD τ) arg9 fullShare inv
        ∗ (normHeld c arg1 arg2 arg3 arg4 arg5 arg6 arg7 arg8 arg9 x b s a w z mean inv -∗ K ⟨⟩))
      ⊢ wp frame (wpE (defs₀ (F := F)) Variants.none c none) E
          (cc1__p2_body i arg1 harg1 arg2 harg2 arg3 harg3 arg4 harg4 arg5 harg5 arg6 harg6 arg7 harg7 arg8 harg8 arg9 harg9) K := by
  simp only [cc1__p2_body_eq_skeleton]; unfold cc1__p2_body_skel
  simp only [k1_part6_eq_skeleton]
  unfold normHeld inputsHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
    ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  sl_exec (disch := first | sl_exact hc)
  sl_step
  iapply Hk
  isplitl [H0 H1 H2 H3 H4 H5]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; · ipureintro; exact harg6.read_unread _
    iexact H5
  isplitl [H6]
  · iexists _; isplitr
    swap; · iexact H6
    ipureintro
    rw [View.read_writes_eq_canon _ _ _ (View.cover_of_tiledBy _ ![2000, 64] (by sl_kernel_rfl))]
    try sl_unfold_words
    simp only [View.readAt_eq_ld, harg1.read_unread, harg2.read_unread, harg5.read_unread, harg6.read_unread,
      harg8.read_unread, harg9.read_unread, View.ld_unit_zero (S := S1x2000x1) off3,
      View.ld_unit_zero (S := S2000x960) off2, View.ld_unit_zero (S := S64x960) off2,
      View.ld_unit_zero (S := S64x128) off2, View.ld_unit_zero (S := S1x960) off2]
    rfl
  isplitl [H7]
  · iexists _; isplitr; · ipureintro; exact harg8.read_unread _
    iexact H7
  iexists _; isplitr; · ipureintro; exact harg9.read_unread _
  iexact H8

end Body

end Cert.KernelIdeal.Norm

end
-- ==== Proof.Run.ApplyData.lean ====
/- The second launch's pipeline: what every staging buffer and the two tables hold after every grid point, and the
   body's obligation. -/
module

public import proofs.«01_k».proof.Proof.Run.Apply

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the contents of the core's buffers when the launch is entered
variable (V : (c : Dev nD) → (b : Ref sig .tc) → Buf (Elt F) ((c : Thread nD τ).loc b))

/-- Window `w`'s block at point `t`, of its array as the launch finds it. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The grid's first point. -/
abbrev first1 : Fin cfg1.N := ⟨0, by rw [show cfg1.N = 25 from N_1]; decide⟩

/-- The table of means the first point leaves. -/
def means (c : Dev nD) : Vec F S64x960 .f32 := meanTable (blk1 V c 2 first1) (countCol (blk1 V c 3 first1))
/-- The table of inverse norms the first point leaves. -/
def invs (c : Dev nD) : Vec F S64x128 .f32 :=
  invTable (blk1 V c 2 first1) (countCol (blk1 V c 3 first1)) (squareCol (blk1 V c 3 first1))

/-- Buffer `b` whole, at some contents. -/
abbrev anyOf (c : Dev nD) (b : Ref sig .tc) : sProp 𝕄 :=
  iprop(∃ f : Buf (Elt F) ((c : Thread nD τ).loc b), ((c : Thread nD τ).loc b) ↦{fullShare} f)
/-- The first launch's staging buffers, which the second leaves alone. -/
abbrev idle1 (c : Dev nD) : sProp 𝕄 :=
  iprop(anyOf c cc0_stg0_0 ∗ anyOf c cc0_stg0_1 ∗ anyOf c cc0_stg1_0 ∗ anyOf c cc0_stg1_1 ∗ anyOf c cc0_stg2_0 ∗ anyOf c cc0_stg3_0)
/-- Those with the two scratch buffers at contents `mean` and `inv` and the generator register. -/
abbrev tablesHeld (c : Dev nD) (mean : Vec F S64x960 .f32) (inv : Vec F S64x128 .f32) : sProp 𝕄 :=
  iprop(idle1 c ∗ owns (c : Thread nD τ) (Memref.whole cc1_scratch0) fullShare mean
    ∗ owns (c : Thread nD τ) (Memref.whole cc1_scratch1) fullShare inv ∗ (∃ r, prngReg c r))

/-- What the launch hands the first point: the scratch buffers at anything. -/
theorem ΦA_open (c : Dev nD) : (Pipeline.ΦA spec1 c : sProp 𝕄)
    ⊢ iprop(idle1 c ∗ (∃ d, owns (c : Thread nD τ) (Memref.whole cc1_scratch0) fullShare d)
      ∗ (∃ d, owns (c : Thread nD τ) (Memref.whole cc1_scratch1) fullShare d) ∗ (∃ r, prngReg c r)) := by
  unfold Pipeline.ΦA; rw [scopedRest1_eq]; simp only [owns_whole]
  iintro ⟨⟨A0, A1, A2, A3, A4, A5, S0, S1⟩, Hg⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [S0]; · iexact S0
  isplitl [S1]; · iexact S1
  iexact Hg

/-- The tables' contents forgotten, it is what the launch takes back. -/
theorem ΦA_close (c : Dev nD) (mean : Vec F S64x960 .f32) (inv : Vec F S64x128 .f32) :
    tablesHeld c mean inv ⊢ (Pipeline.ΦA spec1 c : sProp 𝕄) := by
  unfold Pipeline.ΦA; rw [scopedRest1_eq]; simp only [tablesHeld, owns_whole]
  iintro ⟨⟨A0, A1, A2, A3, A4, A5⟩, S0, S1, Hg⟩
  isplitl [A0 A1 A2 A3 A4 A5 S0 S1]
  · isplitl [A0]; · iexact A0
    isplitl [A1]; · iexact A1
    isplitl [A2]; · iexact A2
    isplitl [A3]; · iexact A3
    isplitl [A4]; · iexact A4
    isplitl [A5]; · iexact A5
    isplitl [S0]; · iexists _; iexact S0
    iexists _; iexact S1
  iexact Hg

/-- The invariant before point `n`: what the launch handed over before the first, the two tables computed afterwards. -/
def inv1 (c : Dev nD) : ℕ → sProp 𝕄
  | 0 => Pipeline.ΦA spec1 c
  | _ + 1 => tablesHeld c (means V c) (invs V c)

/-- The second launch's proof data on core `c`: the arrays as the launch finds them; after each point the inputs'
    buffers at their blocks and the output's at the normalised block; the invariant `inv1`; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => normBlock (blk1 V c 0 t) (blk1 V c 1 t) (blk1 V c 4 t) (blk1 V c 5 t) (means V c) (invs V c)
  Φ t := inv1 V c t.val
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t
    = normBlock (blk1 V c 0 t) (blk1 V c 1 t) (blk1 V c 4 t) (blk1 V c 5 t) (means V c) (invs V c) := by dsimp only [dat1]

/-- Before every point an input's buffer holds what it holds after it: the point's block. -/
theorem dat1_before (c : Dev nD) (w : Fin cfg1.W) (hw : (cfg1.win w).isOut = false) (t : Fin cfg1.N) (d) :
    (dat1 V c).before w t d = (dat1 V c).after w t := by
  fin_cases w <;> first
    | exact absurd hw (by decide)
    | exact ((dat1 V c).before_in_eq_fetched _ rfl (fun _ => rfl) (fun _ _ _ => rfl)
        (fun t => by unfold Dat.blockOf; rw [dat1_A]; rfl) t d).trans
        (by unfold Dat.fetched Dat.blockOf; rw [dat1_A]; rfl)

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d)))

/-- What it returns. -/
def post1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t))

/-- The body at any point takes the one to the other. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before V c 0 rfl, dat1_before V c 1 rfl, dat1_before V c 2 rfl, dat1_before V c 3 rfl,
    dat1_before V c 4 rfl, dat1_before V c 5 rfl]
  rw [show (dat1 V c).Φ t.succ = tablesHeld c (means V c) (invs V c) from rfl,
    show (dat1 V c).owesAt () t.succ = (dat1 V c).owesAt () t.castSucc from rfl,
    show (dat1 V c).Φ t.castSucc = inv1 V c t.val from rfl,
    dat1_after0, dat1_after1, dat1_after2, dat1_after3, dat1_after4, dat1_after5, dat1_after6]
  by_cases h0 : t.val = 0
  · obtain rfl : t = first1 := Fin.ext h0
    have hopen : inv1 V c (first1 : Fin cfg1.N).val ⊢ _ := ΦA_open (F := F) c
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := hopen $$ HΦ
    icases HΦ with ⟨HR, S0, S1, Hg⟩
    iapply (norm_first c (grid1.coords first1) _ _ _ _ _ _ _ _ _ _ _ _ _ _ _ _ _ _ (blk1 V c 0 first1) (blk1 V c 1 first1)
      (blk1 V c 2 first1) (blk1 V c 3 first1) (blk1 V c 4 first1) (blk1 V c 5 first1) ((atFirst_iff first1).mpr rfl) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [S0]; · iexact S0
    isplitl [S1]; · iexact S1
    iintro ⟨⟨H0, H1, H2, H3, H4, H5⟩, H6, S0, S1⟩
    isplitl [HR S0 S1 Hg]
    · isplitl [HR]; · iexact HR
      isplitl [S0]; · iexact S0
      isplitl [S1]; · iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hΦ : inv1 V c t.val = tablesHeld c (means V c) (invs V c) := by
      obtain ⟨n, hn⟩ := Nat.exists_eq_succ_of_ne_zero h0
      rw [hn]; rfl
    rw [hΦ]
    iintro ⟨⟨HR, S0, S1, Hg⟩, Ho, ⟨%d0, H0⟩, ⟨%d1, H1⟩, ⟨%d2, H2⟩, ⟨%d3, H3⟩, ⟨%d4, H4⟩, ⟨%d5, H5⟩, ⟨%d6, H6⟩⟩
    iapply (norm_later c (grid1.coords t) _ _ _ _ _ _ _ _ _ _ _ _ _ _ _ _ _ _ (blk1 V c 0 t) (blk1 V c 1 t)
      (blk1 V c 2 t) (blk1 V c 3 t) (blk1 V c 4 t) (blk1 V c 5 t) (fun h => h0 ((atFirst_iff t).mp h))
      (means V c) (invs V c) Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [S0]; · iexact S0
    isplitl [S1]; · iexact S1
    iintro ⟨⟨H0, H1, H2, H3, H4, H5⟩, H6, S0, S1⟩
    isplitl [HR S0 S1 Hg]
    · isplitl [HR]; · iexact HR
      isplitl [S0]; · iexact S0
      isplitl [S1]; · iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point's staging buffers is the body there. -/
theorem row1 (t : Fin cfg1.N) : defs₀ (F := F) .tc cfg1.body (cfg1.bodyArgs t (cfg1.slots t)) = bodyAt1 t := by
  unfold defs₀; rw [Defs.onTc_tc]

/-- The second launch's body meets its obligation at every point. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

/-- After the last point the invariant gives back what the launch takes. -/
theorem inv1_last (c : Dev nD) : (dat1 V c).Φ (Fin.last cfg1.N) ⊢ (Pipeline.ΦA spec1 c : sProp 𝕄) :=
  ΦA_close c (means V c) (invs V c)

end Cert.KernelIdeal.Norm

end
-- ==== Proof.Run.Main.lean ====
/- The whole run: the host's preparation of the weights and biases, the two launches, and what every buffer holds at the
   end. -/
module

public import proofs.«01_k».proof.Proof.Run.SumsData
public import proofs.«01_k».proof.Proof.Run.ApplyData
public import Idealize.ShloMosaic.Lib.Claim

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the steps -/

/-- Core `c`'s buffers at the start. -/
abbrev start (c : Dev nD) : Valuation τ sig (Elt F) := fun b => m ((c : Dev nD), b)
/-- After the host's preparation: what the first launch is entered with. -/
abbrev prepared (c : Dev nD) : Valuation τ sig (Elt F) := StableHlo.after hostOps0 (start m c)
/-- The same, read at the core's own references. -/
abbrev entry0 (c : Dev nD) (b : Ref sig .tc) : Buf (Elt F) ((c : Thread nD τ).loc b) := prepared m c b
/-- After the first launch: its arrays as it leaves them, every other buffer as it was. -/
def summed (c : Dev nD) : Valuation τ sig (Elt F) :=
  Pipeline.withArrays spec0 c (prepared m c) fun w => (dat0 (entry0 m) c).arrAt w cfg0.N
/-- The same, read at the core's own references: what the second launch is entered with. -/
abbrev entry1 (c : Dev nD) (b : Ref sig .tc) : Buf (Elt F) ((c : Thread nD τ).loc b) := summed m c b
/-- After the second launch: its arrays as it leaves them, every other buffer as it was. -/
def final (c : Dev nD) : Valuation τ sig (Elt F) :=
  Pipeline.withArrays spec1 c (summed m c) fun w => (dat1 (entry1 m) c).arrAt w cfg1.N

/-- The references the host's preparation writes, in order. -/
abbrev hostWrites : List (Ref sig .tc) :=
  [main_v0, main_v1, main_v2, main_v3, main_v4, main_v5, main_v6, main_v7, main_v8, main_v9, main_v10, main_cst, main_v11,
    main_v12, main_v13]
theorem hostWrites_sub : (hostOps0 : List (HloOp τ sig (Elt F))).Forall
    fun op => op.writes ⊆ (hostWrites.map (Proc.devRef (τ := τ) .tc)).toFinset :=
  StableHlo.forall_writes_sub_of_map rfl
/-- None of the preparation's operations allocates. -/
theorem host_fresh : (hostOps0 : List (HloOp τ sig (Elt F))).Forall fun op => op.fresh = ∅ := by
  simp only [List.Forall]; repeat' constructor

/-- A reference the preparation does not write keeps its contents across it. -/
theorem prepared_of (c : Dev nD) (r : Ref sig .tc) (h : r ∉ hostWrites) :
    prepared m c (Proc.devRef .tc r) = m ((c : Thread nD τ).loc r) :=
  StableHlo.after_of_writes_sub hostOps0 _ hostWrites_sub h

theorem summed_arr (c : Dev nD) (w : Fin cfg0.W) :
    summed m c (Proc.devRef .tc (Pipeline.arrRef spec0 w)) = (dat0 (entry0 m) c).arrAt w cfg0.N := by
  unfold summed; exact Pipeline.withArrays_arr spec0 launch0.win.arr_inj c _ _ w
theorem summed_rest (c : Dev nD) (b : Ref sig .tc) (h : ∀ w, Pipeline.arrRef spec0 w ≠ b) :
    summed m c (Proc.devRef .tc b) = prepared m c (Proc.devRef .tc b) := by
  unfold summed; exact Pipeline.withArrays_of_ne spec0 c _ _ b h
/-- The first launch keeps every reference that is none of its outputs. -/
theorem summed_of (c : Dev nD) (r : Ref sig .tc) (h : ∀ w : Fin cfg0.W, Pipeline.arrRef spec0 w = r → (cfg0.win w).isOut = false) :
    summed m c (Proc.devRef .tc r) = prepared m c (Proc.devRef .tc r) := by
  by_cases hw : ∃ w : Fin cfg0.W, Pipeline.arrRef spec0 w = r
  · obtain ⟨w, rfl⟩ := hw
    exact (summed_arr m c w).trans (((dat0 (entry0 m) c).arrAt_in w (h w rfl) _).trans (dat0_A (entry0 m) c w))
  · exact summed_rest m c r fun w e => hw ⟨w, e⟩

theorem final_arr (c : Dev nD) (w : Fin cfg1.W) :
    final m c (Proc.devRef .tc (Pipeline.arrRef spec1 w)) = (dat1 (entry1 m) c).arrAt w cfg1.N := by
  unfold final; exact Pipeline.withArrays_arr spec1 launch1.win.arr_inj c _ _ w
theorem final_rest (c : Dev nD) (b : Ref sig .tc) (h : ∀ w, Pipeline.arrRef spec1 w ≠ b) :
    final m c (Proc.devRef .tc b) = summed m c (Proc.devRef .tc b) := by
  unfold final; exact Pipeline.withArrays_of_ne spec1 c _ _ b h
/-- The second launch keeps every reference that is none of its outputs. -/
theorem final_of (c : Dev nD) (r : Ref sig .tc) (h : ∀ w : Fin cfg1.W, Pipeline.arrRef spec1 w = r → (cfg1.win w).isOut = false) :
    final m c (Proc.devRef .tc r) = summed m c (Proc.devRef .tc r) := by
  by_cases hw : ∃ w : Fin cfg1.W, Pipeline.arrRef spec1 w = r
  · obtain ⟨w, rfl⟩ := hw
    exact (final_arr m c w).trans (((dat1 (entry1 m) c).arrAt_in w (h w rfl) _).trans (dat1_A (entry1 m) c w))
  · exact final_rest m c r fun w e => hw ⟨w, e⟩

/-- The argument arrays. -/
abbrev args : List (Ref sig .tc) := [main_arg0, main_arg1, main_arg2, main_arg3]
theorem args_prepared : ∀ a ∈ args, a ∉ hostWrites := ListAll.forall_mem_of_all_decide (by decide +kernel)
theorem args_in0 : ∀ a ∈ args, ∀ w : Fin cfg0.W, Pipeline.arrRef spec0 w = a → (cfg0.win w).isOut = false :=
  ListAll.forall_mem_of_all_decide (by decide +kernel)
theorem args_in1 : ∀ a ∈ args, ∀ w : Fin cfg1.W, Pipeline.arrRef spec1 w = a → (cfg1.win w).isOut = false :=
  ListAll.forall_mem_of_all_decide (by decide +kernel)
/-- The first launch leaves every argument as it was at the start. -/
theorem summed_args (c : Dev nD) (a : Ref sig .tc) (ha : a ∈ args) :
    summed m c (Proc.devRef .tc a) = m ((c : Thread nD τ).loc a) :=
  (summed_of m c a (args_in0 a ha)).trans (prepared_of m c a (args_prepared a ha))
/-- Every argument ends as it started. -/
theorem final_args (c : Dev nD) (a : Ref sig .tc) (ha : a ∈ args) :
    final m c (Proc.devRef .tc a) = m ((c : Thread nD τ).loc a) :=
  (final_of m c a (args_in1 a ha)).trans (summed_args m c a ha)

/-! ## The steps of the run -/

abbrev adm : (p : Fin 2) → (pcfgs (F := F) p).Adm := fun p => (cfgs p).toPCfg_adm
/-- The two launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev beside (c : Dev nD) : sProp 𝕄 :=
  iprop((∃ r, prngReg c r) ∗ ∃ W, owes (c : Thread nD τ) (0 : CellTallies nD τ sig Unit) W)
/-- The core between two steps: every unscoped buffer at `W`, and what rides beside. -/
abbrev between (W : Dev nD → Valuation τ sig (Elt F)) (c : Dev nD) : sProp 𝕄 :=
  iprop(StableHlo.held (c : Thread nD τ) (Pipeline.ucRefs τ sig) (W c) ∗ beside c)
/-- The core at the end, but for what it owes. -/
abbrev atEnd (c : Dev nD) : sProp 𝕄 :=
  iprop(StableHlo.held (c : Thread nD τ) (Pipeline.ucRefs τ sig) (final m c) ∗ ∃ r, prngReg c r)

set_option backward.isDefEq.respectTransparency.types false in
/-- Launch `p` as a step from the contents `W` to `W'`, when its arrays start at `W` (`hA`) and end at `W'` (`hF`), every
    other buffer is kept (`hrest`), and its invariant is entered from and left to the scoped buffers and the generator. -/
def launchStep (p : Fin 2) (kit : Pipeline.LaunchFacts (nD := nD) (τ := τ) cfgs p) (W W' : Dev nD → Valuation τ sig (Elt F))
    (hbody : ∀ c, BodyObligation (pdats m p c) (defs₀ (F := F)) 𝒱₀ () Set.univ)
    (hq : ∀ c w, (pdats m p c).q w = fullShare) (ho : ∀ c t, (pdats m p c).owed t = 0)
    (hr : ∀ c t, (pdats m p c).recorded t = Set.univ)
    (hA : ∀ c w, (pdats m p c).A w = W c (Proc.devRef .tc (Pipeline.arrRef (cfgs p).spec w)))
    (hF : ∀ c w, (pdats m p c).arrAt w (cfgs p).N = W' c (Proc.devRef .tc (Pipeline.arrRef (cfgs p).spec w)))
    (hrest : ∀ (c : Dev nD) (b : Ref sig .tc), b ∉ Finset.univ.image (Pipeline.arrRef (cfgs p).spec) →
      W' c (Proc.devRef .tc b) = W c (Proc.devRef .tc b))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p ho
  pre c := between W c
  post c := between W' c
  X c := iprop(∃ r, prngReg c r)
  Y c := iprop(∃ r, prngReg c r)
  Z c := Pipeline.unscopedRest (Ix := Unit) (Name := ℕ) (U := UR sig nD τ) (Lvl := ℕ) (cfgs p).spec c
    (fun b => W c (Proc.devRef .tc b))
  hentry c := by
    rw [Pipeline.ownSems0_none]
    have hsplit := Pipeline.arrays_of_unscopedBufs (p := p) (pcfgs (F := F)) adm (pdats m) kit.win kit.arr_whole c
      ((pdats m p c).share_full (hq c)) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (show x ∈ (pdats m p c).recorded 0 by rw [hr]; trivial)
      rw [ho]; iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    have h := hout c
    unfold Pipeline.ΦA at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (fun b => W c (Proc.devRef .tc b)) (fun b => W' c (Proc.devRef .tc b)) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-- The host's preparation as a step. -/
abbrev hostStep : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp host_fresh) op h) (start m) beside

/-- The first launch as a step. -/
def step0 : Pipeline.RegionSeg (pcfgs (F := F)) adm (pdats m) () defs₀ 𝒱₀ L lv 0 :=
  launchStep m 0 launch0 (prepared m) (summed m) (obligation0 (entry0 m)) (fun _ _ => rfl) (fun _ _ => rfl) (fun _ _ => rfl)
    (dat0_A (entry0 m)) (fun c w => (summed_arr m c w).symm)
    (fun c b hb => summed_rest m c b fun w e => hb (Finset.mem_image.mpr ⟨w, Finset.mem_univ _, e⟩))
    (fun _ => .rfl) (fun _ => .rfl)
/-- The second launch as a step. -/
def step1 : Pipeline.RegionSeg (pcfgs (F := F)) adm (pdats m) () defs₀ 𝒱₀ L lv 1 :=
  launchStep m 1 launch1 (summed m) (final m) (obligation1 (entry1 m)) (fun _ _ => rfl) (fun _ _ => rfl) (fun _ _ => rfl)
    (dat1_A (entry1 m)) (fun c w => (final_arr m c w).symm)
    (fun c b hb => final_rest m c b fun w e => hb (Finset.mem_image.mpr ⟨w, Finset.mem_univ _, e⟩))
    (fun _ => .rfl) (inv1_last (entry1 m))

/-- The program's steps, in order. -/
abbrev steps : List (Pipeline.Seg (pcfgs (F := F)) adm (pdats m) () defs₀ 𝒱₀ L lv) :=
  [.host (hostStep m), .region (step0 m), .region (step1 m)]
/-- The program is the run of its steps. -/
theorem main_steps (c : Dev nD) : main (F := F) c = Pipeline.Seg.run (steps m) := (main_chain c).trans (by chain_rfl)

/-- Every semaphore of the core is scoped. -/
theorem sems_scoped : ∀ sm : SemLoc sig, sm.isScoped .tc = true := by decide
/-- An unscoped reference of the core is among those held between the steps. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- The run. From any memory, with every counter zero, every weakly fair execution terminates without fault; every final
    state has every unscoped buffer of every core at `final`, and every counter zero. -/
theorem run_final : θ_run defs (onTc (τ := τ) (main (F := F))) ⟨m, fun _ => 0, ρ⟩ (fun r =>
    (∀ c : Dev nD, ∀ b ∈ Pipeline.ucRefs τ sig, r.2.mem (((c : Thread nD τ)).1, b) = final m c b) ∧ r.2.sem = fun _ => 0) :=
  Pipeline.θ_run_regions_kit_sems (pcfgs (F := F)) adm (pdats m) () cellOf_inj emb₁ defs₀ 𝒱₀ L lv m ρ main (steps m)
    (fun c Q => by rw [main_steps m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (start m)) (Tₙ := atEnd m)
    (hch := ⟨fun _ => .rfl, fun _ => .rfl, fun _ => .rfl, fun c => by
      show between (final m) c ⊢ iprop(atEnd m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (start m c)
        from Pipeline.unscopedBufs_held c (start m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = final m c b)
    (hfin := fun c s' => by
      iintro ⟨⟨Hh, -⟩, HSI⟩
      unfold StableHlo.held
      imodintro
      iapply (pointsTo_read_all (Pipeline.ucRefs τ sig) (fun b => (((c : Thread nD τ)).1, b)) (final m c) s')
      isplitl [Hh] <;> iassumption)
    (hQ := fun s h hz => ⟨h, funext fun g => hz g (.inr (sems_scoped g.2))⟩)

/-- A buffer held between the steps ends at `final`, by `run_final`. -/
theorem run_reads {c : Dev nD} {mem : (ℓ : Loc nD τ sig) → Buf (Elt F) ℓ}
    (h : ∀ b ∈ Pipeline.ucRefs τ sig, mem (((c : Thread nD τ)).1, b) = final m c b) (b : Ref sig .tc)
    (hb : ¬ (Proc.devRef .tc b : DevRef τ sig).isScoped) : mem ((c : Thread nD τ).loc b) = final m c (Proc.devRef .tc b) :=
  h _ (mem_held b hb)

/-- The frame: every execution terminates without fault, the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(run_reads m (h.1 c) main_arg0 (by decide)).trans (final_args m c _ (by decide)),
      (run_reads m (h.1 c) main_arg1 (by decide)).trans (final_args m c _ (by decide)),
      (run_reads m (h.1 c) main_arg2 (by decide)).trans (final_args m c _ (by decide)),
      (run_reads m (h.1 c) main_arg3 (by decide)).trans (final_args m c _ (by decide))⟩, h.2⟩) (run_final m ρ)

end Cert.KernelIdeal.Norm

end
-- ==== Proof.Run.Printed.lean ====
/- The frame of the program over the machine's own numbers: it is the program over the ideal numbers read at bit patterns. -/
module

public import proofs.«01_k».proof.Proof.Run.Main
public import proofs.«01_k».proof.Proof.Gen.Kernel

@[expose] public section

set_option maxRecDepth 65536

noncomputable section

namespace Cert.Kernel.Norm

open Idealize.ShloMosaic Idealize.ShloMosaic.TcCoe Idealize.SL.Sem Cert.Kernel

variable {F : FTy → Type} [FloatOps F]

/-- The two programs have the same body table. -/
theorem defs₀_eq : Cert.Kernel.defs₀ (F := F) = Cert.KernelIdeal.defs₀ (F := F) := by
  unfold Cert.Kernel.defs₀ Cert.KernelIdeal.defs₀
  congr 1
  funext l a
  match l, a with
  | 0, _ => rfl
  | 1, _ => rfl

/-- The two programs have the same definitions. -/
theorem defs_eq : Cert.Kernel.defs (F := F) = Cert.KernelIdeal.defs (F := F) := by
  unfold Cert.Kernel.defs Cert.KernelIdeal.defs
  rw [defs₀_eq]
  rfl

/-- The two programs are the same. -/
theorem main_eq : Cert.Kernel.main (F := F) = Cert.KernelIdeal.main (F := F) := rfl

variable (m : (ℓ : Loc nD τ sig) → Buf (Elt F) ℓ) (ρ : Dev nD → PrngReg)

/-- The frame: every execution terminates without fault, the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Norm.frame m ρ

end Cert.Kernel.Norm

end
-- ==== Proof.Math.Segments.lean ====
/- Sums over the rows of one segment, on the extended reals: what the two programs have in common. -/
module

public import Idealize.ShloMosaic.Lib.Pointwise

@[expose] public section

noncomputable section

namespace Cert.Norm

open Idealize.ShloMosaic

/-- The sum of `f` over the rows `n` whose segment number `b n` is `s`. -/
def onSeg {N : ℕ} (b : Fin N → ℕ) (s : ℕ) (f : Fin N → EReal) : EReal := ∑ n, if b n = s then f n else 0

/-- The number of rows of segment `s`, or one if it has none: the divisor of the segment's means. -/
def sizeOf {N : ℕ} (b : Fin N → ℕ) (s : ℕ) : EReal := max (onSeg b s fun _ => 1) 1

/-- A real's product distributes over a sum of extended reals when it is not negative. -/
theorem sum_mul_coe {ι : Type} (t : Finset ι) (f : ι → EReal) (r : ℝ) (hr : 0 ≤ r) :
    ∑ k ∈ t, f k * (r : EReal) = (∑ k ∈ t, f k) * (r : EReal) := by
  classical
  induction t using Finset.induction_on with
  | empty => simp
  | insert a t ha ih =>
    rw [Finset.sum_insert ha, Finset.sum_insert ha, ih,
      EReal.right_distrib_of_nonneg_of_ne_top (by exact_mod_cast hr) (EReal.coe_ne_top r)]

/-- The sum of reals is the real sum. -/
theorem sum_coe {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- Dividing each term by a positive `r`, summing and dividing by a positive `m` is dividing the sum by `r · m`. -/
theorem div_sum_div {ι : Type} (t : Finset ι) (f : ι → EReal) (r m : ℝ) (hr : 0 < r) (hm : 0 < m) :
    Ideal.div (∑ k ∈ t, Ideal.div (f k) (r : EReal)) (m : EReal) = Ideal.div (∑ k ∈ t, f k) ((r : EReal) * (m : EReal)) := by
  have e : ∀ k, Ideal.div (f k) (r : EReal) = f k * ((1 / r : ℝ) : EReal) := fun k => Ideal.div_coe hr.ne' _
  simp only [e]
  rw [sum_mul_coe _ _ _ (by positivity), Ideal.div_coe hm.ne', ← EReal.coe_mul, Ideal.div_coe (by positivity),
    mul_assoc, ← EReal.coe_mul]
  congr 2
  field_simp

/-- The real number of rows of segment `s`. -/
def countR {N : ℕ} (b : Fin N → ℕ) (s : ℕ) : ℝ := ∑ n, if b n = s then 1 else 0

/-- The sum over a segment of reals is a real sum. -/
theorem onSeg_coe {N : ℕ} (b : Fin N → ℕ) (s : ℕ) (f : Fin N → ℝ) :
    onSeg b s (fun n => (f n : EReal)) = ((∑ n, if b n = s then f n else 0 : ℝ) : EReal) := by
  rw [← sum_coe]
  exact Finset.sum_congr rfl fun n _ => by split <;> simp

/-- A segment that has a row has at least one. -/
theorem one_le_countR {N : ℕ} (b : Fin N → ℕ) (n : Fin N) : 1 ≤ countR b (b n) := by
  refine le_trans (by simp) (Finset.single_le_sum (f := fun k => if b k = b n then (1 : ℝ) else 0)
    (fun k _ => by split <;> norm_num) (Finset.mem_univ n))

/-- The divisor of a segment's means is a real of at least one. -/
theorem sizeOf_coe {N : ℕ} (b : Fin N → ℕ) (s : ℕ) : sizeOf b s = ((max (countR b s) 1 : ℝ) : EReal) := by
  have h : onSeg b s (fun _ => (1 : EReal)) = (countR b s : EReal) := by
    exact (onSeg_coe b s (fun _ => (1 : ℝ)))
  rw [sizeOf, h, ← EReal.coe_one]
  exact (EReal.coe_strictMono.monotone.map_max).symm

/-- The divisor of the means of a segment that has a row is its number of rows. -/
theorem sizeOf_row {N : ℕ} (b : Fin N → ℕ) (n : Fin N) : sizeOf b (b n) = (countR b (b n) : EReal) := by
  rw [sizeOf_coe, max_eq_left (one_le_countR b n)]

/-- A segment's sum commutes with a finite sum of columns. -/
theorem onSeg_sum {N K : ℕ} (b : Fin N → ℕ) (s : ℕ) (f : Fin N → Fin K → EReal) :
    onSeg b s (fun n => ∑ k, f n k) = ∑ k, onSeg b s (fun n => f n k) := by
  unfold onSeg
  rw [Finset.sum_comm]
  refine Finset.sum_congr rfl fun n _ => ?_
  split <;> simp

/-- A row of a one-hot matrix times a column picks the column's entry at the row's segment. -/
theorem onehot_sum {S : ℕ} (v : ℕ) (hv : v < S) (f : Fin S → EReal) :
    ∑ s : Fin S, (if v = s.val then (1 : EReal) else 0) * f s = f ⟨v, hv⟩ := by
  rw [Finset.sum_eq_single (⟨v, hv⟩ : Fin S)]
  · simp
  · intro s _ hs
    rw [if_neg (fun h => hs (Fin.ext h.symm)), zero_mul]
  · exact fun h => absurd (Finset.mem_univ _) h

/-- Summing the entries of the columns in the image of an injection. -/
theorem sum_image {n m : ℕ} (p : Fin n → Prop) [DecidablePred p] (e : Fin m → Fin n) (he : Function.Injective e)
    (hp : ∀ c, p c ↔ ∃ k, e k = c) (f : Fin n → EReal) :
    (∑ c, if p c then f c else 0) = ∑ k, f (e k) := by
  classical
  rw [← Finset.sum_filter, show Finset.univ.filter p = Finset.univ.map ⟨e, he⟩ from by
    ext c; simp [hp], Finset.sum_map]
  rfl

end Cert.Norm

end
-- ==== Proof.Math.Spec.lean ====
/- What the two programs compute, as functions of the rows `x`, the rows' segment numbers `b`, the weights `w` and the
   biases `v`: the columns' groups, a group's mean, the first group's scale, and one element of the result. -/
module

public import proofs.«01_k».proof.Proof.Math.Segments

@[expose] public section

noncomputable section

namespace Cert.Norm

open Idealize.ShloMosaic

/-- The group of a column: the 256 scalars; the component of one of the 128 vectors of length three; the component of
    one of the 64 vectors of length five. -/
def cls (c : ℕ) : ℕ := if c < 256 then 0 else if c < 640 then 1 + (c - 256) % 3 else 4 + (c - 640) % 5

/-- The number of columns of a column's group. -/
def width (c : ℕ) : ℝ := if c < 256 then 256 else if c < 640 then 128 else 64

/-- The weight of a column: one per scalar, one per vector. -/
def weight (w : Fin 448 → EReal) (c : Fin 960) : EReal :=
  w ⟨if c.val < 256 then c.val else if c.val < 640 then 256 + (c.val - 256) / 3 else 384 + (c.val - 640) / 5, by
    have := c.isLt; split_ifs <;> omega⟩

/-- Column `k` of the scalars. -/
def col0 (k : Fin 256) : Fin 960 := ⟨k.val, by omega⟩
/-- Component `i` of the `k`th vector of length three. -/
def col1 (i : Fin 3) (k : Fin 128) : Fin 960 := ⟨256 + (k.val * 3 + i.val), by omega⟩
/-- Component `i` of the `k`th vector of length five. -/
def col2 (i : Fin 5) (k : Fin 64) : Fin 960 := ⟨640 + (k.val * 5 + i.val), by omega⟩

variable {N : ℕ} (x : Fin N → Fin 960 → EReal) (b : Fin N → ℕ)

/-- The mean of a group of `M` columns, `e` their numbers, over a segment: each column's mean, then their mean. -/
def groupMean {M : ℕ} (e : Fin M → Fin 960) (m : ℝ) (s : ℕ) : EReal :=
  Ideal.div (∑ k, Ideal.div (onSeg b s fun n => x n (e k)) (sizeOf b s)) (m : EReal)

/-- The mean over a segment of the squared differences of the scalars from their rows' means. -/
def groupVar (s : ℕ) : EReal :=
  Ideal.div (∑ k : Fin 256, Ideal.div (onSeg b s fun n => (x n (col0 k) - groupMean x b col0 256 (b n)) * (x n (col0 k) - groupMean x b col0 256 (b n)))
    (sizeOf b s)) ((256 : ℝ) : EReal)

/-- One element of the result as the reference computes it. -/
def refOut (ε : ℝ) (w v : Fin 448 → EReal) (n : Fin N) (c : Fin 960) : EReal :=
  if h : c.val < 256 then
    Ideal.div (x n c - groupMean x b col0 256 (b n)) (Ideal.sqrt (groupVar x b (b n)) + (ε : EReal)) * weight w c + v ⟨c.val, by omega⟩
  else if c.val < 640 then
    (x n c - groupMean x b (col1 ⟨(c.val - 256) % 3, Nat.mod_lt _ (by norm_num)⟩) 128 (b n)) * weight w c
  else (x n c - groupMean x b (col2 ⟨(c.val - 640) % 5, Nat.mod_lt _ (by norm_num)⟩) 64 (b n)) * weight w c

/-- The mean of a column's group over a segment out of the columns' sums `t` and the segment's divisor `m`: the group's
    sums added and divided once. -/
def meanOf (t : Fin 960 → EReal) (m : EReal) (c : Fin 960) : EReal :=
  Ideal.div (∑ k : Fin 960, if cls k.val = cls c.val then t k else 0) (m * (width c.val : EReal))

/-- The scale of a segment's scalars out of the sums `t`, the sum of squares `q` and the divisor `m`: the mean of the squares less the
    mean's square, its root and the inverse. -/
def scaleOf (ε : ℝ) (t : Fin 960 → EReal) (q m : EReal) : EReal :=
  Ideal.div 1 (Ideal.sqrt (max (Ideal.div q (m * ((256 : ℝ) : EReal)) - meanOf t m 0 * meanOf t m 0) 0) + (ε : EReal))

/-- One element of the result as the kernel computes it, out of its row's entry `z`, mean `μ`, scale `r`, weight and bias. -/
def applyOut (z μ r w : EReal) (v : EReal) (c : Fin 960) : EReal :=
  if c.val < 256 then (z - μ) * ((r + (r - r)) * w) + v else (z - μ) * w

/-- The sum of the squares of a row's scalars. -/
def rowSq (n : Fin N) : EReal := ∑ k : Fin 256, x n (col0 k) * x n (col0 k)

/-- The sums of the columns over a segment. -/
def totals (s : ℕ) (c : Fin 960) : EReal := onSeg b s fun n => x n c

/-- One element of the result as the kernel computes it. -/
def kerOut (ε : ℝ) (w v : Fin 448 → EReal) (n : Fin N) (c : Fin 960) : EReal :=
  applyOut (x n c) (meanOf (totals x b (b n)) (sizeOf b (b n)) c)
    (scaleOf ε (totals x b (b n)) (onSeg b (b n) (rowSq x)) (sizeOf b (b n))) (weight w c)
    (if h : c.val < 256 then v ⟨c.val, by omega⟩ else 0) c

end Cert.Norm

end
-- ==== Proof.Math.Variance.lean ====
/- The mean of the squared differences from the mean is the mean of the squares less the mean's square, over the rows of
   one segment and `M` columns of reals. -/
module

public import proofs.«01_k».proof.Proof.Math.Segments

@[expose] public section

noncomputable section

namespace Cert.Norm

open Idealize.ShloMosaic

variable {N M : ℕ} (b : Fin N → ℕ) (s : ℕ)

/-- The identity on reals, for a segment that has a row. -/
theorem variance_real (x : Fin N → Fin M → ℝ) (hc : countR b s ≠ 0) (hM : (M : ℝ) ≠ 0) (μ : ℝ)
    (hμ : μ = (∑ k, ∑ n, if b n = s then x n k else 0) / (countR b s * M)) :
    (∑ k, (∑ n, if b n = s then (x n k - μ) * (x n k - μ) else 0) / countR b s) / M
      = (∑ n, if b n = s then ∑ k, x n k * x n k else 0) / (countR b s * M) - μ * μ := by
  have hsq : (∑ n, if b n = s then ∑ k, x n k * x n k else 0) = ∑ k, ∑ n, if b n = s then x n k * x n k else 0 := by
    rw [Finset.sum_comm]
    refine Finset.sum_congr rfl fun n _ => ?_
    split <;> simp
  have hT : (∑ k, ∑ n, if b n = s then x n k else 0) = μ * (countR b s * M) := by
    rw [hμ]; field_simp
  have hexp : ∀ k, (∑ n, if b n = s then (x n k - μ) * (x n k - μ) else 0)
      = (∑ n, if b n = s then x n k * x n k else 0) - 2 * μ * (∑ n, if b n = s then x n k else 0) + μ * μ * countR b s := by
    intro k
    unfold countR
    rw [Finset.mul_sum, Finset.mul_sum, ← Finset.sum_sub_distrib, ← Finset.sum_add_distrib]
    refine Finset.sum_congr rfl fun n _ => ?_
    split <;> ring
  rw [← Finset.sum_div, Finset.sum_congr rfl fun k _ => hexp k, Finset.sum_add_distrib, Finset.sum_sub_distrib,
    ← Finset.mul_sum, hT, hsq]
  simp only [Finset.sum_const, Finset.card_univ, Fintype.card_fin, nsmul_eq_mul]
  field_simp
  ring

/-- The mean squared difference is not negative. -/
theorem variance_nonneg (x : Fin N → Fin M → ℝ) (μ : ℝ) (hc : 0 ≤ countR b s) :
    0 ≤ (∑ k, (∑ n, if b n = s then (x n k - μ) * (x n k - μ) else 0) / countR b s) / M := by
  refine div_nonneg (Finset.sum_nonneg fun k _ => div_nonneg (Finset.sum_nonneg fun n _ => ?_) hc) (Nat.cast_nonneg M)
  split
  · exact mul_self_nonneg _
  · exact le_rfl

/-- The square root of a real that is not negative, at the extended reals. -/
theorem sqrt_coe {r : ℝ} (h : 0 ≤ r) : Ideal.sqrt (r : EReal) = (Real.sqrt r : EReal) := by
  show (if r < 0 then ⊥ else (Real.sqrt r : EReal)) = _
  rw [if_neg (not_lt.mpr h)]

end Cert.Norm

end
-- ==== Proof.Math.Equation.lean ====
/- The kernel's element of the result is the reference's. -/
module

public import proofs.«01_k».proof.Proof.Math.Spec
public import proofs.«01_k».proof.Proof.Math.Variance

@[expose] public section

noncomputable section

namespace Cert.Norm

open Idealize.ShloMosaic

/-- The columns of the scalars. -/
theorem cls_col0 (c : Fin 960) (j : Fin 960) (hc : c.val < 256) : cls j.val = cls c.val ↔ ∃ k, col0 k = j := by
  have e : cls c.val = 0 := by unfold cls; rw [if_pos hc]
  rw [e]
  constructor
  · intro h
    refine ⟨⟨j.val, ?_⟩, Fin.ext rfl⟩
    unfold cls at h
    by_contra hn
    rw [if_neg hn] at h
    split at h <;> omega
  · rintro ⟨k, rfl⟩
    unfold cls
    exact if_pos k.isLt

/-- The columns of a component of the vectors of length three. -/
theorem cls_col1 (c : Fin 960) (j : Fin 960) (h0 : ¬ c.val < 256) (h1 : c.val < 640) :
    cls j.val = cls c.val ↔ ∃ k, col1 ⟨(c.val - 256) % 3, Nat.mod_lt _ (by norm_num)⟩ k = j := by
  have e : cls c.val = 1 + (c.val - 256) % 3 := by unfold cls; rw [if_neg h0, if_pos h1]
  rw [e]
  constructor
  · intro h
    unfold cls at h
    have hj : ¬ j.val < 256 ∧ j.val < 640 := by
      split_ifs at h with a a' <;> omega
    rw [if_neg hj.1, if_pos hj.2] at h
    refine ⟨⟨(j.val - 256) / 3, by omega⟩, Fin.ext ?_⟩
    show 256 + ((j.val - 256) / 3 * 3 + (c.val - 256) % 3) = j.val
    omega
  · rintro ⟨k, rfl⟩
    have := k.isLt
    unfold cls
    show (if 256 + (k.val * 3 + (c.val - 256) % 3) < 256 then 0 else if 256 + (k.val * 3 + (c.val - 256) % 3) < 640
      then 1 + (256 + (k.val * 3 + (c.val - 256) % 3) - 256) % 3 else 4 + (256 + (k.val * 3 + (c.val - 256) % 3) - 640) % 5) = _
    rw [if_neg (by omega), if_pos (by omega)]
    omega

/-- The columns of a component of the vectors of length five. -/
theorem cls_col2 (c : Fin 960) (j : Fin 960) (h1 : ¬ c.val < 640) :
    cls j.val = cls c.val ↔ ∃ k, col2 ⟨(c.val - 640) % 5, Nat.mod_lt _ (by norm_num)⟩ k = j := by
  have e : cls c.val = 4 + (c.val - 640) % 5 := by unfold cls; rw [if_neg (by omega), if_neg h1]
  have hc := c.isLt
  have hjl := j.isLt
  rw [e]
  constructor
  · intro h
    unfold cls at h
    have hj : ¬ j.val < 640 := by
      split_ifs at h with a a' <;> omega
    rw [if_neg (by omega), if_neg hj] at h
    refine ⟨⟨(j.val - 640) / 5, by omega⟩, Fin.ext ?_⟩
    show 640 + ((j.val - 640) / 5 * 5 + (c.val - 640) % 5) = j.val
    omega
  · rintro ⟨k, rfl⟩
    have := k.isLt
    unfold cls
    show (if 640 + (k.val * 5 + (c.val - 640) % 5) < 256 then 0 else if 640 + (k.val * 5 + (c.val - 640) % 5) < 640
      then 1 + (640 + (k.val * 5 + (c.val - 640) % 5) - 256) % 3 else 4 + (640 + (k.val * 5 + (c.val - 640) % 5) - 640) % 5) = _
    rw [if_neg (by omega), if_neg (by omega)]
    omega

theorem col0_injective : Function.Injective col0 := fun a c h => Fin.ext (by have := congrArg Fin.val h; simpa [col0] using this)
theorem col1_injective (i : Fin 3) : Function.Injective (col1 i) := fun a c h => Fin.ext (by
  have := congrArg Fin.val h
  simp only [col1] at this
  omega)
theorem col2_injective (i : Fin 5) : Function.Injective (col2 i) := fun a c h => Fin.ext (by
  have := congrArg Fin.val h
  simp only [col2] at this
  omega)

variable {N : ℕ} (x : Fin N → Fin 960 → EReal) (b : Fin N → ℕ)

/-- Dividing the sum of a group's columns once is the mean of the columns' means. -/
theorem meanOf_eq {M : ℕ} (e : Fin M → Fin 960) (he : Function.Injective e) (s : ℕ) (c : Fin 960) (m : ℝ) (hm : 0 < m)
    (hw : width c.val = m) (hp : ∀ j : Fin 960, cls j.val = cls c.val ↔ ∃ k, e k = j) :
    meanOf (totals x b s) (sizeOf b s) c = groupMean x b e m s := by
  unfold meanOf groupMean
  rw [sum_image (fun j : Fin 960 => cls j.val = cls c.val) e he hp, hw, sizeOf_coe,
    div_sum_div _ _ _ _ (by positivity) hm]
  rfl

/-- The mean of the scalars. -/
theorem meanOf_scalar (s : ℕ) (c : Fin 960) (hc : c.val < 256) :
    meanOf (totals x b s) (sizeOf b s) c = groupMean x b col0 256 s :=
  meanOf_eq x b col0 col0_injective s c 256 (by norm_num) (by unfold width; exact if_pos hc) fun j => cls_col0 c j hc

variable {x b}

/-- The scale of the scalars of a segment that has a row is the inverse of a positive real, the reference's divisor. -/
theorem scaleOf_eq (ε : ℝ) (hε : 0 < ε) (n : Fin N) (hx : ∀ n k, ∃ r : ℝ, x n (col0 k) = (r : EReal)) :
    ∃ d : ℝ, 0 < d ∧ Ideal.sqrt (groupVar x b (b n)) + (ε : EReal) = (d : EReal)
      ∧ scaleOf ε (totals x b (b n)) (onSeg b (b n) (rowSq x)) (sizeOf b (b n)) = ((1 / d : ℝ) : EReal) := by
  choose r hr using hx
  have hc1 := one_le_countR b n
  have hc0 : countR b (b n) ≠ 0 := by positivity
  obtain ⟨μ, hμ⟩ : ∃ μ : ℝ, μ = (∑ k, ∑ i, if b i = b n then r i k else 0) / (countR b (b n) * (256 : ℕ)) := ⟨_, rfl⟩
  obtain ⟨V, hV⟩ : ∃ V : ℝ, V = (∑ k, (∑ i, if b i = b n then (r i k - μ) * (r i k - μ) else 0) / countR b (b n)) / ((256 : ℕ) : ℝ) := ⟨_, rfl⟩
  have hV0 : 0 ≤ V := hV ▸ variance_nonneg b (b n) r μ (by positivity)
  have hmean : groupMean x b col0 256 (b n) = (μ : EReal) := by
    unfold groupMean
    rw [sizeOf_row, div_sum_div _ _ _ _ (by positivity) (by norm_num), ← EReal.coe_mul, Ideal.div_coe (by positivity)]
    simp only [hr]
    rw [Finset.sum_congr rfl fun k _ => onSeg_coe b (b n) fun i => r i k, sum_coe, ← EReal.coe_mul, hμ]
    congr 1
    push_cast
    ring
  have hvar : groupVar x b (b n) = (V : EReal) := by
    unfold groupVar
    have e : ∀ k : Fin 256, onSeg b (b n) (fun i => (x i (col0 k) - groupMean x b col0 256 (b i)) * (x i (col0 k) - groupMean x b col0 256 (b i)))
        = ((∑ i, if b i = b n then (r i k - μ) * (r i k - μ) else 0 : ℝ) : EReal) := by
      intro k
      rw [← onSeg_coe]
      unfold onSeg
      refine Finset.sum_congr rfl fun i _ => ?_
      by_cases hi : b i = b n
      · rw [if_pos hi, if_pos hi]
        beta_reduce
        rw [hi, hmean, hr, EReal.coe_mul, EReal.coe_sub]
      · rw [if_neg hi, if_neg hi]
    simp only [e]
    rw [sizeOf_row]
    simp only [Ideal.div_coe hc0, ← EReal.coe_mul]
    rw [sum_coe, Ideal.div_coe (by norm_num), ← EReal.coe_mul, hV]
    congr 1
    rw [mul_one_div]
    simp only [mul_one_div]
    norm_num
  have hker : Ideal.div (onSeg b (b n) (rowSq x)) (sizeOf b (b n) * ((256 : ℝ) : EReal))
      - meanOf (totals x b (b n)) (sizeOf b (b n)) 0 * meanOf (totals x b (b n)) (sizeOf b (b n)) 0 = (V : EReal) := by
    rw [meanOf_scalar x b (b n) 0 (by norm_num), hmean, sizeOf_row, ← EReal.coe_mul, Ideal.div_coe (by positivity)]
    have e : rowSq x = fun i => ((∑ k, r i k * r i k : ℝ) : EReal) := by
      funext i
      unfold rowSq
      simp only [hr, ← EReal.coe_mul]
      exact sum_coe _ _
    rw [e, onSeg_coe, ← EReal.coe_mul, ← EReal.coe_mul, ← EReal.coe_sub, hV,
      variance_real b (b n) r hc0 (by norm_num) μ hμ, mul_one_div]
    norm_num
  refine ⟨Real.sqrt V + ε, by positivity, ?_, ?_⟩
  · rw [hvar, sqrt_coe hV0, EReal.coe_add]
  · unfold scaleOf
    rw [hker, max_eq_left (by exact_mod_cast hV0), sqrt_coe hV0, ← EReal.coe_add, Ideal.div_coe (by positivity), one_mul]

/-- The kernel's element is the reference's, when the scalars are reals. -/
theorem kerOut_eq (ε : ℝ) (hε : 0 < ε) (w v : Fin 448 → EReal) (hx : ∀ n k, ∃ r : ℝ, x n (col0 k) = (r : EReal))
    (n : Fin N) (c : Fin 960) : kerOut x b ε w v n c = refOut x b ε w v n c := by
  unfold kerOut refOut applyOut
  by_cases h0 : c.val < 256
  · rw [if_pos h0, dif_pos h0, dif_pos h0, meanOf_scalar x b (b n) c h0]
    obtain ⟨d, hd, e1, e2⟩ := scaleOf_eq (b := b) ε hε n hx
    rw [e1, e2, Ideal.div_coe hd.ne', ← EReal.coe_sub, sub_self, EReal.coe_zero, add_zero, mul_assoc]
  · rw [if_neg h0, dif_neg h0]
    by_cases h1 : c.val < 640
    · rw [if_pos h1, meanOf_eq x b _ (col1_injective _) (b n) c 128 (by norm_num)
        (by unfold width; rw [if_neg h0, if_pos h1]) fun j => cls_col1 c j h0 h1]
    · rw [if_neg h1, meanOf_eq x b _ (col2_injective _) (b n) c 64 (by norm_num)
        (by unfold width; rw [if_neg h0, if_neg h1]) fun j => cls_col2 c j h1]

end Cert.Norm

end
-- ==== Proof.Ref.Rows.lean ====
/- A scatter-add of rows into segments and a gather of rows out of a table, each read at one element. -/
module

public import proofs.«01_k».proof.Proof.Math.Segments
public import Idealize.ShloMosaic.Lib.Routing.OpsPair

@[expose] public section

noncomputable section

namespace Cert.Norm

open Idealize.ShloMosaic

/-- The dimension numbers of adding `N` blocks of shape `A × B`, block `n` into row `idx[n]` of a table of `S` such blocks. -/
abbrev addBlocks {S N A B : ℕ} (wf : ScatterDims.WF ⟨3, ![S, A, B]⟩ ⟨2, ![N, 1]⟩ ⟨3, ![N, A, B]⟩ [1, 2] [0] [0] 1) :
    ScatterDims ⟨3, ![S, A, B]⟩ ⟨2, ![N, 1]⟩ ⟨3, ![N, A, B]⟩ where
  updateWindowDims := [1, 2]
  insertedWindowDims := [0]
  scatterDimsToOperandDims := [0]
  indexVectorDim := 1
  wf := wf

/-- The dimension numbers of adding `N` scalars, scalar `n` into entry `idx[n]` of a vector of length `S`. -/
abbrev addScalars {S N : ℕ} (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

/-- Element `(p, q)` of block `n` lands at element `(a, b)` of row `s` exactly when `idx[n] = s`, `p = a` and `q = b`. -/
theorem addBlocks_lands {S N A B w : ℕ} (wf : ScatterDims.WF ⟨3, ![S, A, B]⟩ ⟨2, ![N, 1]⟩ ⟨3, ![N, A, B]⟩ [1, 2] [0] [0] 1)
    (idx : IVec ⟨2, ![N, 1]⟩ w) (n : Fin N) (p a : Fin A) (q b : Fin B) (s : Fin S) :
    (addBlocks wf).resultIdx? (ix3 n p q) idx = some (ix3 s a b) ↔ (idx (ix2 n 0)).toInt = (s.val : ℤ) ∧ p = a ∧ q = b := by
  rw [Routing.resultIdx?_eq_some]
  have e0 : (addBlocks wf).start (ix3 n p q) idx 0 = (idx (ix2 n 0)).toInt := by
    unfold ScatterDims.start
    rw [dif_pos (show (0 : Fin 3) ∈ (addBlocks wf).scatterDimsToOperandDims from List.mem_singleton.mpr rfl)]
    congr 2
    funext k
    match k with
    | ⟨0, _⟩ => rfl
    | ⟨1, _⟩ => rfl
  constructor
  · intro h
    have h0 : (addBlocks wf).start (ix3 n p q) idx 0 + (0 : ℤ) = (s.val : ℤ) := h 0
    rw [e0, add_zero] at h0
    have h1 : (0 : ℤ) + (p.val : ℤ) = (a.val : ℤ) := h 1
    have h2 : (0 : ℤ) + (q.val : ℤ) = (b.val : ℤ) := h 2
    exact ⟨h0, Fin.ext (by omega), Fin.ext (by omega)⟩
  · rintro ⟨h0, rfl, rfl⟩ k
    match k with
    | ⟨0, _⟩ =>
      show (addBlocks wf).start (ix3 n p q) idx 0 + (0 : ℤ) = _
      rw [e0, h0, add_zero]
      rfl
    | ⟨1, _⟩ => exact zero_add _
    | ⟨2, _⟩ => exact zero_add _

/-- The scatter-add of blocks at one element: what was there plus the elements of the blocks of that row. -/
theorem addBlocks_apply {S N A B w : ℕ} (wf : ScatterDims.WF ⟨3, ![S, A, B]⟩ ⟨2, ![N, 1]⟩ ⟨3, ![N, A, B]⟩ [1, 2] [0] [0] 1)
    (x : FVec Ideal ⟨3, ![S, A, B]⟩ .f32) (idx : IVec ⟨2, ![N, 1]⟩ w) (u : FVec Ideal ⟨3, ![N, A, B]⟩ .f32)
    (s : Fin S) (a : Fin A) (b : Fin B) :
    Host.scatterAdd (addBlocks wf) x idx u (ix3 s a b)
      = x (ix3 s a b) + ∑ n : Fin N, if (idx (ix2 n 0)).toInt = (s.val : ℤ) then u (ix3 n a b) else (0 : EReal) := by
  show x (ix3 s a b) + ∑ j ∈ Finset.univ.filter (fun j => (addBlocks wf).resultIdx? j idx = some (ix3 s a b)), u j = _
  rw [Finset.sum_filter, sum_idx3]
  congr 1
  refine Finset.sum_congr rfl fun n _ => ?_
  rw [Finset.sum_eq_single a, Finset.sum_eq_single b]
  · simp only [addBlocks_lands, and_true]
  · intro q _ hq
    rw [if_neg]
    rw [addBlocks_lands]
    exact fun h => hq h.2.2
  · exact fun h => absurd (Finset.mem_univ _) h
  · intro p _ hp
    refine Finset.sum_eq_zero fun q _ => ?_
    rw [if_neg]
    rw [addBlocks_lands]
    exact fun h => hp h.2.1
  · exact fun h => absurd (Finset.mem_univ _) h

/-- Scalar `n` lands at entry `s` exactly when `idx[n] = s`. -/
theorem addScalars_lands {S N w : ℕ} (wf : ScatterDims.WF ⟨1, ![S]⟩ ⟨2, ![N, 1]⟩ ⟨1, ![N]⟩ [] [0] [0] 1)
    (idx : IVec ⟨2, ![N, 1]⟩ w) (n : Fin N) (s : Fin S) :
    (addScalars wf).resultIdx? (ix1 n) idx = some (ix1 s) ↔ (idx (ix2 n 0)).toInt = (s.val : ℤ) := by
  rw [Routing.resultIdx?_eq_some]
  have e0 : (addScalars wf).start (ix1 n) idx 0 = (idx (ix2 n 0)).toInt := by
    unfold ScatterDims.start
    rw [dif_pos (show (0 : Fin 1) ∈ (addScalars wf).scatterDimsToOperandDims from List.mem_singleton.mpr rfl)]
    congr 2
    funext k
    match k with
    | ⟨0, _⟩ => rfl
    | ⟨1, _⟩ => rfl
  constructor
  · intro h
    have h0 := h 0
    rw [e0] at h0
    have h0' : (idx (ix2 n 0)).toInt + 0 = (s.val : ℤ) := h0
    rwa [add_zero] at h0'
  · intro h k
    match k with
    | ⟨0, _⟩ =>
      show (addScalars wf).start (ix1 n) idx 0 + (0 : ℤ) = _
      rw [e0, h, add_zero]
      rfl

/-- The scatter-add of scalars at one entry: what was there plus the scalars of that entry. -/
theorem addScalars_apply {S N w : ℕ} (wf : ScatterDims.WF ⟨1, ![S]⟩ ⟨2, ![N, 1]⟩ ⟨1, ![N]⟩ [] [0] [0] 1)
    (x : FVec Ideal ⟨1, ![S]⟩ .f32) (idx : IVec ⟨2, ![N, 1]⟩ w) (u : FVec Ideal ⟨1, ![N]⟩ .f32) (s : Fin S) :
    Host.scatterAdd (addScalars wf) x idx u (ix1 s)
      = x (ix1 s) + ∑ n : Fin N, if (idx (ix2 n 0)).toInt = (s.val : ℤ) then u (ix1 n) else (0 : EReal) := by
  show x (ix1 s) + ∑ j ∈ Finset.univ.filter (fun j => (addScalars wf).resultIdx? j idx = some (ix1 s)), u j = _
  rw [Finset.sum_filter, sum_idx1]
  simp only [addScalars_lands]

/-- The dimension numbers of taking, for each `n`, the row `idx[n]` of a table of `S` rows of shape `1 × B`. -/
abbrev takeRow {S N B : ℕ}
    (wf : GatherDims.WF ⟨3, ![S, 1, B]⟩ ⟨2, ![N, 1]⟩ ⟨3, ![N, 1, B]⟩ [1, 2] [0] [] [0] [] 1 ![1, 1, B]) :
    GatherDims ⟨3, ![S, 1, B]⟩ ⟨2, ![N, 1]⟩ ⟨3, ![N, 1, B]⟩ where
  offsetDims := [1, 2]
  collapsedSliceDims := [0]
  operandBatchingDims := []
  startIndicesBatchingDims := []
  startIndexMap := [0]
  indexVectorDim := 1
  sliceSizes := ![1, 1, B]
  wf := wf

/-- The gather of rows at one element: the table's element of row `idx[n]`, when that row is in the table. -/
theorem takeRow_apply {α : Type} {S N B w : ℕ}
    (wf : GatherDims.WF ⟨3, ![S, 1, B]⟩ ⟨2, ![N, 1]⟩ ⟨3, ![N, 1, B]⟩ [1, 2] [0] [] [0] [] 1 ![1, 1, B])
    (x : (⟨3, ![S, 1, B]⟩ : Shape).Idx → α) (idx : IVec ⟨2, ![N, 1]⟩ w) (n : Fin N) (b : Fin B) (s : Fin S)
    (hs : (idx (ix2 n 0)).toInt = (s.val : ℤ)) :
    Host.gather (takeRow wf) x idx (ix3 n 0 b) = x (ix3 s 0 b) := by
  unfold Host.gather
  congr 1
  have hst : (takeRow wf).start (ix3 n 0 b) idx 0 = s.val := by
    unfold GatherDims.start
    rw [dif_pos (show (0 : Fin 3) ∈ (takeRow wf).startIndexMap from List.mem_singleton.mpr rfl)]
    have e : (takeRow wf).siIdx (ix3 n 0 b) ⟨List.idxOf (0 : Fin 3) (takeRow wf).startIndexMap,
        List.idxOf_lt_length_iff.2 (List.mem_singleton.mpr rfl)⟩ = ix2 n 0 := by
      funext k
      match k with
      | ⟨0, _⟩ => rfl
      | ⟨1, _⟩ => rfl
    rw [e, hs]
    have := s.isLt
    show min s.val (S - 1) = s.val
    omega
  funext k
  refine Fin.ext ?_
  show (takeRow wf).start (ix3 n 0 b) idx k + (takeRow wf).batchCoord (ix3 n 0 b) k + (takeRow wf).offCoord (ix3 n 0 b) k = _
  rw [GatherDims.batchCoord_eq_zero _ _ _ List.not_mem_nil, Nat.add_zero]
  match k with
  | ⟨0, _⟩ => exact hst
  | ⟨1, _⟩ => rfl
  | ⟨2, _⟩ => exact Nat.zero_add _

end Cert.Norm

end
-- ==== Proof.Math.Constants.lean ====
/- The constants of the two programs as extended reals. -/
module

public import Idealize.ShloMosaic.Lib.IdealHost

@[expose] public section

noncomputable section

namespace Cert.Norm

open Idealize.ShloMosaic

/-- The number 256. -/
theorem const_256 : Ideal.ofBits .f32 0x43800000#32 = ((256 : ℝ) : EReal) := by
  simp [Ideal.ofBits, Ideal.ieee, -EReal.coe_mul]; norm_num
/-- The number 128. -/
theorem const_128 : Ideal.ofBits .f32 0x43000000#32 = ((128 : ℝ) : EReal) := by
  simp [Ideal.ofBits, Ideal.ieee, -EReal.coe_mul]; norm_num
/-- The number 64. -/
theorem const_64 : Ideal.ofBits .f32 0x42800000#32 = ((64 : ℝ) : EReal) := by
  simp [Ideal.ofBits, Ideal.ieee, -EReal.coe_mul]; norm_num

/-- The small positive number both programs add to the root of the variance, as a real. -/
def eps : ℝ := (Ideal.ofBits .f32 0x3727C5AC#32).toReal

/-- It is positive. -/
theorem eps_pos : 0 < eps := by
  unfold eps
  have e : Ideal.ofBits .f32 0x3727C5AC#32 = ((2748779 / 274877906944 : ℝ) : EReal) := by
    simp [Ideal.ofBits, Ideal.ieee, -EReal.coe_mul]; norm_num
  rw [e, EReal.toReal_coe]
  norm_num

/-- The constant is this real. -/
theorem const_eps : Ideal.ofBits .f32 0x3727C5AC#32 = (eps : EReal) := by
  have e : Ideal.ofBits .f32 0x3727C5AC#32 = ((2748779 / 274877906944 : ℝ) : EReal) := by
    simp [Ideal.ofBits, Ideal.ieee, -EReal.coe_mul]; norm_num
  rw [eps, e, EReal.toReal_coe]

end Cert.Norm

end
-- ==== Proof.Ref.Mean.lean ====
/- The reference's first stages read at an element: the segments' sizes, the means of the three groups over a segment, and
   the rows' differences from them. -/
module

public import proofs.«01_k».proof.Proof.Gen.ReferenceIdeal.Read
public import proofs.«01_k».proof.Proof.Ref.Rows
public import proofs.«01_k».proof.Proof.Math.Spec
public import proofs.«01_k».proof.Proof.Math.Constants

@[expose] public section

noncomputable section

namespace Cert.ReferenceIdeal.Norm

open Cert.ReferenceIdeal Cert.ReferenceIdeal.Gen Cert.ReferenceIdeal.Read Cert.Norm Idealize.ShloMosaic Idealize.ShloMosaic.TcCoe

/-- The rows' entries. -/
def rows (x0 : FVec Ideal S50000x960 .f32) (n : Fin 50000) (c : Fin 960) : EReal := x0 (ix2 n c)
/-- The rows' segment numbers. -/
def segs (x1 : IVec S50000 32) (n : Fin 50000) : ℕ := (x1 (ix1 n)).toNat

/-- A word below 64 names segment `s`, read signed, exactly when its value is `s`. -/
theorem word_eq (v : BitVec 32) (h : v.toNat < 64) (s : ℕ) : v.toInt = (s : ℤ) ↔ v.toNat = s := by
  rw [BitVec.toInt_eq_toNat_of_lt (by omega)]
  exact Int.ofNat_inj

variable (x0 : FVec Ideal S50000x960 .f32) (x1 : IVec S50000 32) (hb : ∀ n, segs x1 n < 64)

include hb

/-- A sum over the rows whose word reads `s` is the sum over the segment. -/
theorem sum_words (s : ℕ) (f : Fin 50000 → EReal) :
    (∑ n : Fin 50000, if (x1 (ix1 n)).toInt = (s : ℤ) then f n else 0) = onSeg (segs x1) s f :=
  Finset.sum_congr rfl fun n _ => if_congr (word_eq _ (hb n) s) rfl rfl

/-- The divisor of a segment's means. -/
theorem size_apply (s : Fin 64) : val_main_v5 (F := Ideal) x1 (ix1 s) = sizeOf (segs x1) s.val := by
  have h3 : val_main_v3 (F := Ideal) x1 (ix1 s) = onSeg (segs x1) s.val fun _ => 1 := by
    refine (addScalars_apply scatter_S64_S50000x1_S50000_n_0_0_1_wf _ _ _ s).trans ?_
    have e1 : val_main_v1 (F := Ideal) (ix1 s) = 0 := by pointwise [val_main_v1, val_main_cst_0]
    have e2 : ∀ n : Fin 50000, val_main_v2 (F := Ideal) x1 (ix2 n 0) = x1 (ix1 n) := fun n => by pointwise [val_main_v2]
    have e0 : ∀ n : Fin 50000, val_main_v0 (F := Ideal) (ix1 n) = 1 := fun n => by pointwise [val_main_v0, val_main_cst]
    simp only [e1, e2, e0]
    rw [sum_words x1 hb, zero_add]
  rw [val_main_v5_apply, h3]
  have e4 : val_main_v4 (F := Ideal) (ix1 s) = 1 := by pointwise [val_main_v4, val_main_cst_1]
  rw [e4]
  rfl

/-- Blocks `u` added by segment into zeros, at one element: the sum over the segment of the blocks' elements there. -/
theorem blocks_sum {A B : ℕ} (wf : ScatterDims.WF ⟨3, ![64, A, B]⟩ ⟨2, ![50000, 1]⟩ ⟨3, ![50000, A, B]⟩ [1, 2] [0] [0] 1)
    (z : FVec Ideal ⟨3, ![64, A, B]⟩ .f32) (idx : IVec ⟨2, ![50000, 1]⟩ 32) (u : FVec Ideal ⟨3, ![50000, A, B]⟩ .f32)
    (s : Fin 64) (k : Fin A) (i : Fin B) (hz : z (ix3 s k i) = 0) (hidx : ∀ n, idx (ix2 n 0) = x1 (ix1 n))
    (f : Fin 50000 → EReal) (hu : ∀ n, u (ix3 n k i) = f n) :
    Host.scatterAdd (addBlocks wf) z idx u (ix3 s k i) = onSeg (segs x1) s.val f := by
  rw [addBlocks_apply, hz, zero_add]
  simp only [hidx, hu]
  exact sum_words x1 hb s.val f

/-- The rows of a table taken by segment number, the index wrapped as jax wraps a negative one: the table's row of the
    segment. -/
theorem take_row {B : ℕ} (wf : GatherDims.WF ⟨3, ![64, 1, B]⟩ ⟨2, ![50000, 1]⟩ ⟨3, ![50000, 1, B]⟩ [1, 2] [0] [] [0] [] 1 ![1, 1, B])
    (t : FVec Ideal ⟨3, ![64, 1, B]⟩ .f32) (idx : IVec ⟨2, ![50000, 1]⟩ 32) (n : Fin 50000) (i : Fin B)
    (hidx : idx (ix2 n 0) = Scalar.select (IntOp.cmpi .slt (x1 (ix1 n)) 0#32) (IntOp.addi (x1 (ix1 n)) 64#32) (x1 (ix1 n))) :
    Host.gather (takeRow wf) t idx (ix3 n 0 i) = t (ix3 ⟨segs x1 n, hb n⟩ 0 i) := by
  refine takeRow_apply wf t idx n i ⟨segs x1 n, hb n⟩ ?_
  rw [hidx, Routing.wrap_of_lt _ _ (lt_trans (hb n) (by norm_num))]
  exact (word_eq _ (hb n) _).mpr rfl

omit hb in
theorem entry0 (n : Fin 50000) (k : Fin 256) : val_main_v7 (F := Ideal) x0 (ix3 n k 0) = rows x0 n (col0 k) := by
  pointwise [val_main_v7, val_main_v6, rows, col0]
omit hb in
theorem entry1 (n : Fin 50000) (k : Fin 128) (i : Fin 3) : val_main_v60 (F := Ideal) x0 (ix3 n k i) = rows x0 n (col1 i k) := by
  pointwise [val_main_v60, val_main_v59, rows, col1]
omit hb in
theorem entry2 (n : Fin 50000) (k : Fin 64) (i : Fin 5) : val_main_v86 (F := Ideal) x0 (ix3 n k i) = rows x0 n (col2 i k) := by
  pointwise [val_main_v86, val_main_v85, rows, col2]

/-- The mean of the scalars over a segment. -/
theorem mean0 (s : Fin 64) : val_main_v17 (F := Ideal) x0 x1 (ix3 s 0 0) = groupMean (rows x0) (segs x1) col0 256 s.val := by
  have hsum : ∀ k : Fin 256, val_main_v13 (F := Ideal) x0 x1 (ix3 s k 0)
      = Ideal.div (onSeg (segs x1) s.val fun n => rows x0 n (col0 k)) (sizeOf (segs x1) s.val) := by
    intro k
    have h10 : val_main_v10 (F := Ideal) x0 x1 (ix3 s k 0) = onSeg (segs x1) s.val fun n => rows x0 n (col0 k) :=
      blocks_sum x1 hb scatter_S64x256x1_S50000x1_S50000x256x1_12_0_0_1_wf _ _ _ s k 0
        (by pointwise [val_main_v8, val_main_cst_2]) (fun n => by pointwise [val_main_v9]) _ fun n => entry0 x0 n k
    have h12 : val_main_v12 (F := Ideal) x1 (ix3 s k 0) = val_main_v5 (F := Ideal) x1 (ix1 s) := by
      pointwise [val_main_v12, val_main_v11]
    rw [val_main_v13_apply, h10, h12, size_apply x1 hb]
    rfl
  have h15 : val_main_v15 (F := Ideal) x0 x1 (ix3 s 0 0) = ∑ k : Fin 256, val_main_v13 (F := Ideal) x0 x1 (ix3 s k 0) := by
    pointwise [val_main_v15, val_main_v14, val_main_cst_3]
  have h16 : val_main_v16 (F := Ideal) (ix3 s 0 0) = ((256 : ℝ) : EReal) := by
    pointwise [val_main_v16, val_main_cst_4]
    exact const_256
  rw [val_main_v17_apply, h15, h16]
  simp only [hsum]
  rfl

/-- The mean of component `i` of the vectors of length three over a segment. -/
theorem mean1 (s : Fin 64) (i : Fin 3) :
    val_main_v70 (F := Ideal) x0 x1 (ix3 s 0 i) = groupMean (rows x0) (segs x1) (col1 i) 128 s.val := by
  have hsum : ∀ k : Fin 128, val_main_v66 (F := Ideal) x0 x1 (ix3 s k i)
      = Ideal.div (onSeg (segs x1) s.val fun n => rows x0 n (col1 i k)) (sizeOf (segs x1) s.val) := by
    intro k
    have h63 : val_main_v63 (F := Ideal) x0 x1 (ix3 s k i) = onSeg (segs x1) s.val fun n => rows x0 n (col1 i k) :=
      blocks_sum x1 hb scatter_S64x128x3_S50000x1_S50000x128x3_12_0_0_1_wf _ _ _ s k i
        (by pointwise [val_main_v61, val_main_cst_12]) (fun n => by pointwise [val_main_v62]) _ fun n => entry1 x0 n k i
    have h65 : val_main_v65 (F := Ideal) x1 (ix3 s k i) = val_main_v5 (F := Ideal) x1 (ix1 s) := by
      pointwise [val_main_v65, val_main_v64]
    rw [val_main_v66_apply, h63, h65, size_apply x1 hb]
    rfl
  have h68 : val_main_v68 (F := Ideal) x0 x1 (ix3 s 0 i) = ∑ k : Fin 128, val_main_v66 (F := Ideal) x0 x1 (ix3 s k i) := by
    pointwise [val_main_v68, val_main_v67, val_main_cst_13]
  have h69 : val_main_v69 (F := Ideal) (ix3 s 0 i) = ((128 : ℝ) : EReal) := by
    pointwise [val_main_v69, val_main_cst_14]
    exact const_128
  rw [val_main_v70_apply, h68, h69]
  simp only [hsum]
  rfl

/-- The mean of component `i` of the vectors of length five over a segment. -/
theorem mean2 (s : Fin 64) (i : Fin 5) :
    val_main_v96 (F := Ideal) x0 x1 (ix3 s 0 i) = groupMean (rows x0) (segs x1) (col2 i) 64 s.val := by
  have hsum : ∀ k : Fin 64, val_main_v92 (F := Ideal) x0 x1 (ix3 s k i)
      = Ideal.div (onSeg (segs x1) s.val fun n => rows x0 n (col2 i k)) (sizeOf (segs x1) s.val) := by
    intro k
    have h89 : val_main_v89 (F := Ideal) x0 x1 (ix3 s k i) = onSeg (segs x1) s.val fun n => rows x0 n (col2 i k) :=
      blocks_sum x1 hb scatter_S64x64x5_S50000x1_S50000x64x5_12_0_0_1_wf _ _ _ s k i
        (by pointwise [val_main_v87, val_main_cst_17]) (fun n => by pointwise [val_main_v88]) _ fun n => entry2 x0 n k i
    have h91 : val_main_v91 (F := Ideal) x1 (ix3 s k i) = val_main_v5 (F := Ideal) x1 (ix1 s) := by
      pointwise [val_main_v91, val_main_v90]
    rw [val_main_v92_apply, h89, h91, size_apply x1 hb]
    rfl
  have h94 : val_main_v94 (F := Ideal) x0 x1 (ix3 s 0 i) = ∑ k : Fin 64, val_main_v92 (F := Ideal) x0 x1 (ix3 s k i) := by
    pointwise [val_main_v94, val_main_v93, val_main_cst_18]
  have h95 : val_main_v95 (F := Ideal) (ix3 s 0 i) = ((64 : ℝ) : EReal) := by
    pointwise [val_main_v95, val_main_cst_19]
    exact const_64
  rw [val_main_v96_apply, h94, h95]
  simp only [hsum]
  rfl

/-- A row's scalar less the mean of its segment's scalars. -/
theorem diff0 (n : Fin 50000) (k : Fin 256) : val_main_v26 (F := Ideal) x0 x1 (ix3 n k 0)
    = rows x0 n (col0 k) - groupMean (rows x0) (segs x1) col0 256 (segs x1 n) := by
  have h24 : val_main_v24 (F := Ideal) x0 x1 (ix3 n 0 0) = _ :=
    take_row x1 hb gather_S64x1x1_S50000x1_S50000x1x1_12_0_n_n_0_1_111_wf (val_main_v17 (F := Ideal) x0 x1) _ n 0
      (by pointwise [val_main_v23, val_main_v22, val_main_v21, val_main_v20, val_main_v19, val_main_v18, val_main_c, val_main_c_5])
  have h25 : val_main_v25 (F := Ideal) x0 x1 (ix3 n k 0) = val_main_v24 (F := Ideal) x0 x1 (ix3 n 0 0) := by
    pointwise [val_main_v25]
  rw [val_main_v26_apply, entry0, h25, h24, mean0 x0 x1 hb]
  rfl

/-- A row's component `i` of a vector of length three less the mean of its segment's. -/
theorem diff1 (n : Fin 50000) (k : Fin 128) (i : Fin 3) : val_main_v79 (F := Ideal) x0 x1 (ix3 n k i)
    = rows x0 n (col1 i k) - groupMean (rows x0) (segs x1) (col1 i) 128 (segs x1 n) := by
  have h77 : val_main_v77 (F := Ideal) x0 x1 (ix3 n 0 i) = _ :=
    take_row x1 hb gather_S64x1x3_S50000x1_S50000x1x3_12_0_n_n_0_1_113_wf (val_main_v70 (F := Ideal) x0 x1) _ n i
      (by pointwise [val_main_v76, val_main_v75, val_main_v74, val_main_v73, val_main_v72, val_main_v71, val_main_c_15, val_main_c_16])
  have h78 : val_main_v78 (F := Ideal) x0 x1 (ix3 n k i) = val_main_v77 (F := Ideal) x0 x1 (ix3 n 0 i) := by
    pointwise [val_main_v78]
  rw [val_main_v79_apply, entry1, h78, h77, mean1 x0 x1 hb]
  rfl

/-- A row's component `i` of a vector of length five less the mean of its segment's. -/
theorem diff2 (n : Fin 50000) (k : Fin 64) (i : Fin 5) : val_main_v105 (F := Ideal) x0 x1 (ix3 n k i)
    = rows x0 n (col2 i k) - groupMean (rows x0) (segs x1) (col2 i) 64 (segs x1 n) := by
  have h103 : val_main_v103 (F := Ideal) x0 x1 (ix3 n 0 i) = _ :=
    take_row x1 hb gather_S64x1x5_S50000x1_S50000x1x5_12_0_n_n_0_1_115_wf (val_main_v96 (F := Ideal) x0 x1) _ n i
      (by pointwise [val_main_v102, val_main_v101, val_main_v100, val_main_v99, val_main_v98, val_main_v97, val_main_c_20, val_main_c_21])
  have h104 : val_main_v104 (F := Ideal) x0 x1 (ix3 n k i) = val_main_v103 (F := Ideal) x0 x1 (ix3 n 0 i) := by
    pointwise [val_main_v104]
  rw [val_main_v105_apply, entry2, h104, h103, mean2 x0 x1 hb]
  rfl

end Cert.ReferenceIdeal.Norm

end
-- ==== Proof.Ref.Value.lean ====
/- The reference's result read at an element. -/
module

public import proofs.«01_k».proof.Proof.Ref.Mean

@[expose] public section

noncomputable section

namespace Cert.ReferenceIdeal.Norm

open Cert.ReferenceIdeal Cert.ReferenceIdeal.Gen Cert.ReferenceIdeal.Read Cert.Norm Idealize.ShloMosaic Idealize.ShloMosaic.TcCoe

/-- The entries of a vector of 448 numbers. -/
def entries (x2 : FVec Ideal S448 .f32) (k : Fin 448) : EReal := x2 (ix1 k)

variable (x0 : FVec Ideal S50000x960 .f32) (x1 : IVec S50000 32) (x2 x3 : FVec Ideal S448 .f32) (hb : ∀ n, segs x1 n < 64)

include hb

/-- The variance of the scalars over a segment. -/
theorem var0 (s : Fin 64) : val_main_v37 (F := Ideal) x0 x1 (ix3 s 0 0) = groupVar (rows x0) (segs x1) s.val := by
  have hsum : ∀ k : Fin 256, val_main_v33 (F := Ideal) x0 x1 (ix3 s k 0)
      = Ideal.div (onSeg (segs x1) s.val fun n => (rows x0 n (col0 k) - groupMean (rows x0) (segs x1) col0 256 (segs x1 n))
          * (rows x0 n (col0 k) - groupMean (rows x0) (segs x1) col0 256 (segs x1 n))) (sizeOf (segs x1) s.val) := by
    intro k
    have h30 : val_main_v30 (F := Ideal) x0 x1 (ix3 s k 0) = _ :=
      blocks_sum x1 hb scatter_S64x256x1_S50000x1_S50000x256x1_12_0_0_1_wf _ _ (val_main_v27 (F := Ideal) x0 x1) s k 0
        (by pointwise [val_main_v28, val_main_cst_6]) (fun n => by pointwise [val_main_v29])
        (fun n => (rows x0 n (col0 k) - groupMean (rows x0) (segs x1) col0 256 (segs x1 n))
          * (rows x0 n (col0 k) - groupMean (rows x0) (segs x1) col0 256 (segs x1 n)))
        fun n => by rw [val_main_v27_apply, diff0 x0 x1 hb]; rfl
    have h32 : val_main_v32 (F := Ideal) x1 (ix3 s k 0) = val_main_v5 (F := Ideal) x1 (ix1 s) := by
      pointwise [val_main_v32, val_main_v31]
    rw [val_main_v33_apply, h30, h32, size_apply x1 hb]
    rfl
  have h35 : val_main_v35 (F := Ideal) x0 x1 (ix3 s 0 0) = ∑ k : Fin 256, val_main_v33 (F := Ideal) x0 x1 (ix3 s k 0) := by
    pointwise [val_main_v35, val_main_v34, val_main_cst_7]
    exact Finset.sum_congr rfl fun k _ => Fin.sum_univ_one _
  have h36 : val_main_v36 (F := Ideal) (ix3 s 0 0) = ((256 : ℝ) : EReal) := by
    pointwise [val_main_v36, val_main_cst_8]
    exact const_256
  rw [val_main_v37_apply, h35, h36]
  simp only [hsum]
  rfl

/-- The result at a scalar's column. -/
theorem out0 (n : Fin 50000) (k : Fin 256) : val_main_v57 (F := Ideal) x0 x1 x2 x3 (ix3 n k 0)
    = Ideal.div (rows x0 n (col0 k) - groupMean (rows x0) (segs x1) col0 256 (segs x1 n))
        (Ideal.sqrt (groupVar (rows x0) (segs x1) (segs x1 n)) + (eps : EReal)) * entries x2 ⟨k.val, by omega⟩ + entries x3 ⟨k.val, by omega⟩ := by
  have h45 : val_main_v45 (F := Ideal) x0 x1 (ix3 n 0 0) = _ :=
    take_row x1 hb gather_S64x1x1_S50000x1_S50000x1x1_12_0_n_n_0_1_111_wf (val_main_v38 (F := Ideal) x0 x1) _ n 0
      (by pointwise [val_main_v44, val_main_v43, val_main_v42, val_main_v41, val_main_v40, val_main_v39, val_main_c_9, val_main_c_10])
  have h48 : val_main_v48 (F := Ideal) x0 x1 (ix3 n k 0) = val_main_v45 (F := Ideal) x0 x1 (ix3 n 0 0) + (eps : EReal) := by
    rw [← const_eps]
    pointwise [val_main_v48, val_main_v47, val_main_v46, val_main_cst_11]
  have h53 : val_main_v53 (F := Ideal) x2 (ix3 n k 0) = entries x2 ⟨k.val, by omega⟩ := by
    pointwise [val_main_v53, val_main_v52, val_main_v50, entries]
  have h56 : val_main_v56 (F := Ideal) x3 (ix3 n k 0) = entries x3 ⟨k.val, by omega⟩ := by
    pointwise [val_main_v56, val_main_v55, val_main_v51, entries]
  rw [val_main_v57_apply, val_main_v54_apply, val_main_v49_apply, diff0 x0 x1 hb, h48, h45, h53, h56, val_main_v38_apply, var0 x0 x1 hb]
  rfl

/-- The result at a component of a vector of length three. -/
theorem out1 (n : Fin 50000) (k : Fin 128) (i : Fin 3) : val_main_v83 (F := Ideal) x0 x1 x2 (ix3 n k i)
    = (rows x0 n (col1 i k) - groupMean (rows x0) (segs x1) (col1 i) 128 (segs x1 n)) * entries x2 ⟨256 + k.val, by omega⟩ := by
  have h82 : val_main_v82 (F := Ideal) x2 (ix3 n k i) = entries x2 ⟨256 + k.val, by omega⟩ := by
    pointwise [val_main_v82, val_main_v81, val_main_v80, entries]
  rw [val_main_v83_apply, diff1 x0 x1 hb, h82]
  rfl

/-- The result at a component of a vector of length five. -/
theorem out2 (n : Fin 50000) (k : Fin 64) (i : Fin 5) : val_main_v109 (F := Ideal) x0 x1 x2 (ix3 n k i)
    = (rows x0 n (col2 i k) - groupMean (rows x0) (segs x1) (col2 i) 64 (segs x1 n)) * entries x2 ⟨384 + k.val, by omega⟩ := by
  have h108 : val_main_v108 (F := Ideal) x2 (ix3 n k i) = entries x2 ⟨384 + k.val, by omega⟩ := by
    pointwise [val_main_v108, val_main_v107, val_main_v106, entries]
  rw [val_main_v109_apply, diff2 x0 x1 hb, h108]
  rfl

omit hb in
/-- The three parts of the result side by side. -/
theorem joined (n : Fin 50000) (c : Fin 960) : val_main_v111 (F := Ideal) x0 x1 x2 x3 (ix2 n c)
    = if h : c.val < 256 then val_main_v58 (F := Ideal) x0 x1 x2 x3 (ix2 n ⟨c.val, h⟩)
      else if h : c.val - 256 < 384 then val_main_v84 (F := Ideal) x0 x1 x2 (ix2 n ⟨c.val - 256, h⟩)
      else val_main_v110 (F := Ideal) x0 x1 x2 (ix2 n ⟨c.val - 256 - 384, by omega⟩) := by
  pointwise [val_main_v111]

/-- The reference's result at row `n` and column `c`. -/
theorem result_apply (n : Fin 50000) (c : Fin 960) : val_main_v111 (F := Ideal) x0 x1 x2 x3 (ix2 n c)
    = refOut (rows x0) (segs x1) eps (entries x2) (entries x3) n c := by
  have hc := c.isLt
  unfold refOut
  by_cases h0 : c.val < 256
  · have e : val_main_v111 (F := Ideal) x0 x1 x2 x3 (ix2 n c) = val_main_v57 (F := Ideal) x0 x1 x2 x3 (ix3 n ⟨c.val, h0⟩ 0) := by
      rw [joined, dif_pos h0]
      pointwise [val_main_v58]
    rw [e, out0 x0 x1 x2 x3 hb, dif_pos h0]
    unfold weight
    simp only [if_pos h0]
    rfl
  · rw [dif_neg h0]
    by_cases h1 : c.val < 640
    · have e : val_main_v111 (F := Ideal) x0 x1 x2 x3 (ix2 n c) = val_main_v83 (F := Ideal) x0 x1 x2
          (ix3 n ⟨(c.val - 256) / 3, by omega⟩ ⟨(c.val - 256) % 3, Nat.mod_lt _ (by norm_num)⟩) := by
        rw [joined, dif_neg h0, dif_pos (by omega)]
        pointwise [val_main_v84]
      have ec : col1 ⟨(c.val - 256) % 3, Nat.mod_lt _ (by norm_num)⟩ ⟨(c.val - 256) / 3, by omega⟩ = c :=
        Fin.ext (by show 256 + ((c.val - 256) / 3 * 3 + (c.val - 256) % 3) = c.val; omega)
      rw [e, out1 x0 x1 x2 hb, ec, if_pos h1]
      unfold weight
      simp only [if_neg h0, if_pos h1]
    · have e : val_main_v111 (F := Ideal) x0 x1 x2 x3 (ix2 n c) = val_main_v109 (F := Ideal) x0 x1 x2
          (ix3 n ⟨(c.val - 640) / 5, by omega⟩ ⟨(c.val - 640) % 5, Nat.mod_lt _ (by norm_num)⟩) := by
        rw [joined, dif_neg h0, dif_neg (by omega)]
        pointwise [val_main_v110]
        simp only [Nat.sub_sub]
      have ec : col2 ⟨(c.val - 640) % 5, Nat.mod_lt _ (by norm_num)⟩ ⟨(c.val - 640) / 5, by omega⟩ = c :=
        Fin.ext (by show 640 + ((c.val - 640) / 5 * 5 + (c.val - 640) % 5) = c.val; omega)
      rw [e, out2 x0 x1 x2 hb, ec, if_neg h1]
      unfold weight
      simp only [if_neg h0, if_neg h1]

end Cert.ReferenceIdeal.Norm

end
-- ==== Proof.Math.Running.lean ====
/- Sums taken block by block: a running sum over the blocks, and the blocks' sums over their rows put together. -/
module

public import proofs.«01_k».proof.Proof.Math.Segments

@[expose] public section

noncomputable section

namespace Cert.Norm

/-- What starts at the first block's contribution and takes up the next one's at every step holds the contributions up to
    there. -/
theorem running {M : ℕ} (a : (n : ℕ) → n < M → EReal) (g : Fin M → EReal) (h0 : ∀ h, a 0 h = g ⟨0, h⟩)
    (hs : ∀ n h, a (n + 1) h = a n (Nat.lt_of_succ_lt h) + g ⟨n + 1, h⟩) (n : ℕ) (h : n < M) :
    a n h = ∑ t : Fin M, if t.val ≤ n then g t else 0 := by
  induction n with
  | zero =>
    rw [h0, Finset.sum_eq_single ⟨0, h⟩ (fun t _ ht => if_neg fun hle => ht (Fin.ext (Nat.le_zero.mp hle))) (fun hn => absurd (Finset.mem_univ _) hn)]
    rw [if_pos (le_refl 0)]
  | succ n ih =>
    have e : ∀ t : Fin M, (if t.val ≤ n + 1 then g t else 0) = (if t.val ≤ n then g t else 0) + if t = ⟨n + 1, h⟩ then g t else 0 := by
      intro t
      by_cases h1 : t.val ≤ n
      · rw [if_pos (by omega), if_pos h1, if_neg (fun e => by rw [e] at h1; dsimp only at h1; omega), add_zero]
      · by_cases h2 : t = ⟨n + 1, h⟩
        · rw [if_pos h2, if_pos (by rw [h2]), if_neg h1, zero_add]
        · rw [if_neg h2, if_neg h1, if_neg (fun hle => h2 (Fin.ext (by dsimp only; omega))), add_zero]
    rw [hs, ih]
    simp only [e, Finset.sum_add_distrib, Finset.sum_ite_eq', Finset.mem_univ, if_true]

/-- Row `r` of block `t`. -/
def rowOf (t : Fin 25) (r : Fin 2000) : Fin 50000 := ⟨t.val * 2000 + r.val, by omega⟩

/-- A sum over the blocks and their rows is the sum over the rows. -/
theorem sum_rowOf (f : Fin 50000 → EReal) : (∑ t : Fin 25, ∑ r : Fin 2000, f (rowOf t r)) = ∑ n, f n := by
  rw [← Fintype.sum_prod_type' fun t r => f (rowOf t r)]
  exact Fintype.sum_equiv (finProdFinEquiv (m := 25) (n := 2000)) _ (fun n : Fin (25 * 2000) => f n)
    fun p => congrArg f (Fin.ext (by simp only [rowOf, finProdFinEquiv_apply_val]; omega))

/-- The blocks' sums over a segment are the sum over the segment. -/
theorem onSeg_rowOf (b : Fin 50000 → ℕ) (s : ℕ) (f : Fin 50000 → EReal) :
    (∑ t : Fin 25, onSeg (fun r => b (rowOf t r)) s fun r => f (rowOf t r)) = onSeg b s f :=
  sum_rowOf fun n => if b n = s then f n else 0

end Cert.Norm

end
-- ==== Proof.Value.Host.lean ====
/- What the host's preparation leaves for the two launches: the segment numbers in blocks, one weight and one bias per
   column. -/
module

public import proofs.«01_k».proof.Proof.Run.Main
public import proofs.«01_k».proof.Proof.Math.Running
public import proofs.«01_k».proof.Proof.Math.Spec
public import Idealize.ShloMosaic.Lib.Pipeline.ValueKit

@[expose] public section

set_option maxRecDepth 16384

noncomputable section

namespace Cert.KernelIdeal.Norm

open Cert.KernelIdeal Cert.KernelIdeal.Gen Cert.Norm Idealize.ShloMosaic Idealize.ShloMosaic.TcCoe

variable (m : (ℓ : Loc nD τ sig) → Buf (Elt Ideal) ℓ) (c : Dev nD)

/-- The four argument arrays. -/
abbrev argRows : FVec Ideal S50000x960 .f32 := m ((c : Thread nD τ).loc main_arg0)
abbrev argSegs : IVec S50000 32 := m ((c : Thread nD τ).loc main_arg1)
abbrev argWeight : FVec Ideal S448 .f32 := m ((c : Thread nD τ).loc main_arg2)
abbrev argBias : FVec Ideal S448 .f32 := m ((c : Thread nD τ).loc main_arg3)

/-- The segment numbers, block by block. -/
theorem prepared_segs (t : Fin 25) (r : Fin 2000) : entry0 m c main_v0 (ix3 t r 0) = argSegs m c (ix1 (rowOf t r)) := by
  unfold entry0 prepared
  entry_read
  pointwise [rowOf]

/-- The preparation after its first eight steps: the three stretches of weights put end to end. -/
theorem weights_joined (V : Valuation τ sig (Elt Ideal)) :
    StableHlo.after (hostOps0.drop 8) V (Proc.devRef .tc main_v9)
      = shapeCast S1x960 (concatenate S960 0 [⟨S256, (V (Proc.devRef .tc main_v1) : FVec Ideal S256 .f32)⟩,
          ⟨S384, (V (Proc.devRef .tc main_v4) : FVec Ideal S384 .f32)⟩, ⟨S320, (V (Proc.devRef .tc main_v7) : FVec Ideal S320 .f32)⟩]
          concatenates_S256_S384_S320_S960_d0) shapeCasts_S960_S1x960 := by
  simp only [hostOps0, List.drop]
  entry_read
  rfl

/-- The weights of the scalars. -/
theorem weights_0 : StableHlo.after (hostOps0.take 8) (start m c) (Proc.devRef .tc main_v1) = extractStridedSlice S256 ![0] (argWeight m c) slices_S448_S256_0 := by
  simp only [hostOps0, List.take]
  entry_read
  rfl
/-- The weights of the vectors of length three, each three times. -/
theorem weights_3 : StableHlo.after (hostOps0.take 8) (start m c) (Proc.devRef .tc main_v4)
    = shapeCast S384 (broadcastInDim S128x3 ![0] bcast_S128_S128x3_0 (extractStridedSlice S128 ![256] (argWeight m c) slices_S448_S128_256)) shapeCasts_S128x3_S384 := by
  simp only [hostOps0, List.take]
  entry_read
  rfl
/-- The weights of the vectors of length five, each five times. -/
theorem weights_5 : StableHlo.after (hostOps0.take 8) (start m c) (Proc.devRef .tc main_v7)
    = shapeCast S320 (broadcastInDim S64x5 ![0] bcast_S64_S64x5_0 (extractStridedSlice S64 ![384] (argWeight m c) slices_S448_S64_384)) shapeCasts_S64x5_S320 := by
  simp only [hostOps0, List.take]
  entry_read
  rfl

/-- One weight per column. -/
theorem prepared_weight (k : Fin 960) : entry0 m c main_v9 (ix2 0 k) = weight (fun i => argWeight m c (ix1 i)) k := by
  have e : entry0 m c main_v9 = _ := weights_joined (StableHlo.after (hostOps0.take 8) (start m c))
  rw [e, weights_0, weights_3, weights_5]
  pointwise [weight]
  have hk := k.isLt
  by_cases h0 : k.val < 256
  · rw [dif_pos h0]
    exact congrArg (fun i => argWeight m c (ix1 i)) (Fin.ext (if_pos h0).symm)
  by_cases h1 : k.val < 640
  · rw [dif_neg h0, dif_pos (by omega)]
    exact congrArg (fun i => argWeight m c (ix1 i)) (Fin.ext (by dsimp only; rw [if_neg h0, if_pos h1]))
  · rw [dif_neg h0, dif_neg (by omega)]
    exact congrArg (fun i => argWeight m c (ix1 i)) (Fin.ext (by dsimp only; rw [if_neg h0, if_neg h1]; omega))

/-- One bias per column, none for the vectors' columns. -/
theorem prepared_bias (k : Fin 960) :
    entry0 m c main_v13 (ix2 0 k) = (if h : k.val < 256 then argBias m c (ix1 ⟨k.val, by omega⟩) else 0 : EReal) := by
  unfold entry0 prepared
  entry_read
  pointwise

end Cert.KernelIdeal.Norm

end
-- ==== Proof.Value.Sums.lean ====
/- What one block of 2000 rows adds to the first launch's two running sums, read at an element. -/
module

public import proofs.«01_k».proof.Proof.Gen.KernelIdeal.Skeleton
public import proofs.«01_k».proof.Proof.Math.Spec
public import Idealize.ShloMosaic.Lib.WordCmp

@[expose] public section

noncomputable section

namespace Cert.KernelIdeal.Norm

open Cert.KernelIdeal Cert.KernelIdeal.Gen Cert.Norm Idealize.ShloMosaic Idealize.ShloMosaic.TcCoe

/-- The segment numbers of a block's rows. -/
def blockSegs (b : Vec Ideal S1x2000x1 .i32) (r : Fin 2000) : ℕ := BitVec.toNat (w := 32) (b (ix3 0 r 0))

/-- A comparison of two words widened and converted is one where they agree and zero elsewhere. -/
theorem indicator (v : BitVec 32) (s : Fin 64) :
    FloatOps.sitofp (F := Ideal) .f32 (BitVec.setWidth 32 (IntOp.cmpi .eq v (BitVec.ofNat 32 s.val)))
      = if v.toNat = s.val then (1 : EReal) else 0 := by
  have hs := s.isLt
  rw [WordCmp.cmpi_eq_eq_toNat, WordCmp.toNat_ofNat_of_lt (by omega)]
  show (((BitVec.setWidth 32 (BitVec.ofBool (decide (v.toNat = s.val)))).toInt : ℝ) : EReal) = _
  by_cases h : v.toNat = s.val
  · rw [if_pos h, decide_eq_true h, show (BitVec.setWidth 32 (BitVec.ofBool true)).toInt = 1 by decide]
    norm_num
  · rw [if_neg h, decide_eq_false h, show (BitVec.setWidth 32 (BitVec.ofBool false)).toInt = 0 by decide]
    norm_num

/-- A sum weighted by the indicator of a segment is the sum over the segment. -/
theorem sum_indicator {N : ℕ} (b : Fin N → ℕ) (s : ℕ) (f : Fin N → EReal) :
    (∑ n, (if b n = s then (1 : EReal) else 0) * f n) = onSeg b s f :=
  Finset.sum_congr rfl fun n _ => by split <;> simp

/-- The one-hot matrix of a block's segment numbers. -/
theorem onehot_apply (b : Vec Ideal S1x2000x1 .i32) (r : Fin 2000) (s : Fin 64) :
    k0_pay3 (F := Ideal) b (ix2 r s) = if blockSegs b r = s.val then (1 : EReal) else 0 := by
  pointwise [k0_pay3]
  exact indicator _ s

/-- The block's column sums are added to the running ones, segment by segment. -/
theorem sum_apply (x : Vec Ideal S2000x960 .f32) (b : Vec Ideal S1x2000x1 .i32) (a : Vec Ideal S64x960 .f32) (s : Fin 64) (c : Fin 960) :
    k0_pay4 (F := Ideal) x b a (ix2 s c) = a (ix2 s c) + onSeg (blockSegs b) s.val fun r => x (ix2 r c) := by
  pointwise [k0_pay4]
  simp only [onehot_apply]
  rw [sum_indicator]

/-- The block's rows are counted in lane 0. -/
theorem count_apply (x : Vec Ideal S2000x960 .f32) (b : Vec Ideal S1x2000x1 .i32) (a : Vec Ideal S64x128 .f32) (s : Fin 64) :
    k0_pay5 (F := Ideal) x b a (ix2 s 0) = a (ix2 s 0) + onSeg (blockSegs b) s.val fun _ => 1 := by
  pointwise [k0_pay5]
  simp only [onehot_apply]
  rfl

/-- The block's squares are summed in lane 1. -/
theorem square_apply (x : Vec Ideal S2000x960 .f32) (b : Vec Ideal S1x2000x1 .i32) (a : Vec Ideal S64x128 .f32) (s : Fin 64) :
    k0_pay5 (F := Ideal) x b a (ix2 s 1) = a (ix2 s 1) + onSeg (blockSegs b) s.val fun r => rowSq (fun n c => x (ix2 n c)) r := by
  pointwise [k0_pay5]
  simp only [onehot_apply]
  rw [sum_indicator]
  rfl

/-- The running sums start at zero. -/
theorem zero_apply (s : Fin 64) (c : Fin 960) : k0_pay1 (F := Ideal) (ix2 s c) = 0 := by pointwise [k0_pay1]
theorem zero_apply' (s : Fin 64) (c : Fin 128) : k0_pay2 (F := Ideal) (ix2 s c) = 0 := by pointwise [k0_pay2]

end Cert.KernelIdeal.Norm

end
-- ==== Proof.Value.Total.lean ====
/- What the first launch leaves: the segment sums of every column, the segment counts and the segment sums of squares. -/
module

public import proofs.«01_k».proof.Proof.Run.SumsData
public import proofs.«01_k».proof.Proof.Math.Running
public import proofs.«01_k».proof.Proof.Value.Sums
public import Idealize.ShloMosaic.Lib.Pipeline.ValueKit

@[expose] public section

set_option maxRecDepth 16384

noncomputable section

namespace Cert.KernelIdeal.Norm

open Cert.KernelIdeal Cert.KernelIdeal.Gen Cert.Norm Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Where the blocks of the first launch's windows lie. -/
theorem index0 : ∀ t : Fin cfg0.N, win0_0.index t = ![t.val, 0] ∧ win0_1.index t = ![t.val, 0, 0] ∧ win0_2.index t = ![0, 0] ∧ win0_3.index t = ![0, 0] :=
  (by decide +kernel : ∀ t : Fin grid0.N, _)

theorem points0 (t : Fin cfg0.N) : t.val < 25 := lt_of_lt_of_eq t.isLt (show cfg0.N = 25 from N_0)

/-- A row of a block is a row of the array. -/
theorem blk0_rows (t : Fin cfg0.N) (r : Fin 2000) (k : Fin 960) :
    blk0 V c 0 t (ix2 r k) = V c main_arg0 (ix2 (rowOf ⟨t.val, points0 t⟩ r) k) := by
  blk_ext [blk0, index0 t, rowOf]

/-- A segment number of a block is one of the array. -/
theorem blk0_segs (t : Fin cfg0.N) (r : Fin 2000) :
    blk0 V c 1 t (ix3 0 r 0) = V c main_v0 (ix3 ⟨t.val, points0 t⟩ r 0) := by
  blk_ext [blk0, index0 t]

section Sums

variable (x : Fin 50000 → Fin 960 → EReal) (b : Fin 50000 → ℕ)
  (hx : ∀ n k, V c main_arg0 (ix2 n k) = x n k) (hb : ∀ t r, BitVec.toNat (w := 32) (V c main_v0 (ix3 t r 0)) = b (rowOf t r))

include hb in
theorem blockSegs0 (t : Fin cfg0.N) : blockSegs (blk0 V c 1 t) = fun r => b (rowOf ⟨t.val, points0 t⟩ r) :=
  funext fun r => (congrArg (BitVec.toNat (w := 32)) (blk0_segs V c t r)).trans (hb _ _)

/-- What starts at a block's contribution to a segment's sum of `f` over the rows and takes up the next block's at every
    point holds the whole sum after the last. -/
theorem total (s : ℕ) (f : Fin 50000 → EReal) (a : (n : ℕ) → n < cfg0.N → EReal)
    (h0 : ∀ h, a 0 h = onSeg (fun r => b (rowOf ⟨0, points0 ⟨0, h⟩⟩ r)) s fun r => f (rowOf ⟨0, points0 ⟨0, h⟩⟩ r))
    (hs : ∀ n h, a (n + 1) h = a n (Nat.lt_of_succ_lt h)
      + onSeg (fun r => b (rowOf ⟨n + 1, points0 ⟨n + 1, h⟩⟩ r)) s fun r => f (rowOf ⟨n + 1, points0 ⟨n + 1, h⟩⟩ r))
    (h : 24 < cfg0.N) : a 24 h = onSeg b s f := by
  have e := running (M := 25) (fun n hn => a n (lt_of_lt_of_eq hn (show cfg0.N = 25 from N_0).symm))
    (fun t => onSeg (fun r => b (rowOf t r)) s fun r => f (rowOf t r)) (fun _ => h0 _) (fun _ _ => hs _ _) 24 (by norm_num)
  rw [← onSeg_rowOf]
  exact e.trans (Finset.sum_congr rfl fun t _ => if_pos (by have := t.isLt; omega))

include hx hb

/-- After the last point the first running sum holds the segment sums of the columns. -/
theorem sums_total (h : 24 < cfg0.N) (s : Fin 64) (k : Fin 960) : (sumsAt V c 24 h).1 (ix2 s k) = totals x b s.val k := by
  refine total b s.val (fun n => x n k) (fun n h => (sumsAt V c n h).1 (ix2 s k)) (fun h => ?_) (fun n h => ?_) h
  · refine (sum_apply _ _ _ s k).trans ?_
    rw [zero_apply, zero_add, blockSegs0 V c b hb]
    simp only [blk0_rows, hx]
  · refine (sum_apply _ _ _ s k).trans ?_
    rw [blockSegs0 V c b hb]
    simp only [blk0_rows, hx]

omit hx in
/-- Lane 0 of the second running sum holds the segment counts. -/
theorem counts_total (h : 24 < cfg0.N) (s : Fin 64) : (sumsAt V c 24 h).2 (ix2 s 0) = onSeg b s.val fun _ => 1 := by
  refine total b s.val (fun _ => 1) (fun n h => (sumsAt V c n h).2 (ix2 s 0)) (fun h => ?_) (fun n h => ?_) h
  · refine (count_apply _ _ _ s).trans ?_
    rw [zero_apply', zero_add, blockSegs0 V c b hb]
  · refine (count_apply _ _ _ s).trans ?_
    rw [blockSegs0 V c b hb]

/-- Lane 1 of the second running sum holds the segment sums of the squares. -/
theorem squares_total (h : 24 < cfg0.N) (s : Fin 64) : (sumsAt V c 24 h).2 (ix2 s 1) = onSeg b s.val (rowSq x) := by
  refine total b s.val (rowSq x) (fun n h => (sumsAt V c n h).2 (ix2 s 1)) (fun h => ?_) (fun n h => ?_) h
  · refine (square_apply _ _ _ s).trans ?_
    rw [zero_apply', zero_add, blockSegs0 V c b hb]
    simp only [rowSq, blk0_rows, hx]
  · refine (square_apply _ _ _ s).trans ?_
    rw [blockSegs0 V c b hb]
    simp only [rowSq, blk0_rows, hx]

end Sums

/-- The first launch's last point. -/
abbrev last0 : Fin cfg0.N := ⟨24, by rw [show cfg0.N = 25 from N_0]; decide⟩

/-- The arrays of sums end at what the last point leaves. -/
theorem sums_array : (dat0 V c).arrAt 2 cfg0.N = (sumsAt V c 24 last0.isLt).1 := by
  refine (dat0 V c).arrAt_eq_of_after_last 2 last0 (by decide +kernel) _ fun j => ?_
  blk_simp
  rw [dat0_after2]

theorem aux_array : (dat0 V c).arrAt 3 cfg0.N = (sumsAt V c 24 last0.isLt).2 := by
  refine (dat0 V c).arrAt_eq_of_after_last 3 last0 (by decide +kernel) _ fun j => ?_
  blk_simp
  rw [dat0_after3]

end Cert.KernelIdeal.Norm

end
-- ==== Proof.Value.Tables.lean ====
/- The tables of means and of inverse norms the second launch computes from the segment sums, read at an element. -/
module

public import proofs.«01_k».proof.Proof.Run.Apply
public import proofs.«01_k».proof.Proof.Math.Spec
public import proofs.«01_k».proof.Proof.Math.Constants
public import Idealize.ShloMosaic.Lib.WordCmp

@[expose] public section

set_option maxRecDepth 16384

noncomputable section

namespace Cert.KernelIdeal.Norm

open Cert.KernelIdeal Cert.KernelIdeal.Gen Cert.Norm Idealize.ShloMosaic Idealize.ShloMosaic.TcCoe

/-- The lanes of the scalars. -/
theorem mask_scalar (σ : Fin 64) (c : Fin 960) : k1_pay3 (ix2 σ c) = BitVec.ofBool (decide (cls c.val = 0)) := by
  pointwise [k1_pay3]
  exact (by decide +kernel : ∀ c : Fin 960, IntOp.cmpi .slt (BitVec.ofNat 32 c.val) 256#32 = BitVec.ofBool (decide (cls c.val = 0))) c

/-- The word a lane's number less `o` leaves on division by `d`, as the second launch computes it: the machine's remainder,
    moved by `d` where its sign is not `d`'s. -/
def laneMod (o d : BitVec 32) (c : ℕ) : BitVec 32 :=
  let r := IntOp.remsi .vector (IntOp.subi (BitVec.ofNat 32 c) o) d
  Scalar.select (IntOp.andi (IntOp.xori (IntOp.cmpi .slt r 0#32) (IntOp.cmpi .slt d 0#32)) (IntOp.cmpi .ne r 0#32)) (IntOp.addi r d) r

/-- The lanes of component `i` of the vectors of length three. -/
theorem mask_three (σ : Fin 64) (i : Fin 3) (c : Fin 960) :
    IntOp.andi (k1_pay4 (ix2 σ c)) (IntOp.cmpi .eq (k1_pay9 (iota .tc S64x960 32 [1] iota_S64x960_d1_w32) (ix2 σ c)) (BitVec.ofNat 32 i.val))
      = BitVec.ofBool (decide (cls c.val = 1 + i.val)) := by
  pointwise [k1_pay4, k1_pay9]
  exact (by decide +kernel : ∀ (i : Fin 3) (c : Fin 960),
    IntOp.andi (IntOp.andi (IntOp.cmpi .sge (BitVec.ofNat 32 c.val) 256#32) (IntOp.cmpi .slt (BitVec.ofNat 32 c.val) 640#32))
      (IntOp.cmpi .eq (laneMod 256#32 3#32 c.val) (BitVec.ofNat 32 i.val)) = BitVec.ofBool (decide (cls c.val = 1 + i.val))) i c

/-- The lanes of component `i` of the vectors of length five. -/
theorem mask_five (σ : Fin 64) (i : Fin 5) (c : Fin 960) :
    IntOp.andi (k1_pay5 (ix2 σ c)) (IntOp.cmpi .eq (k1_pay14 (iota .tc S64x960 32 [1] iota_S64x960_d1_w32) (ix2 σ c)) (BitVec.ofNat 32 i.val))
      = BitVec.ofBool (decide (cls c.val = 4 + i.val)) := by
  pointwise [k1_pay5, k1_pay14]
  exact (by decide +kernel : ∀ (i : Fin 5) (c : Fin 960),
    IntOp.andi (IntOp.cmpi .sge (BitVec.ofNat 32 c.val) 640#32)
      (IntOp.cmpi .eq (laneMod 640#32 5#32 c.val) (BitVec.ofNat 32 i.val)) = BitVec.ofBool (decide (cls c.val = 4 + i.val))) i c

/-- A column's group and its size go together. -/
theorem cls_width (c : ℕ) : (cls c = 0 ∧ width c = 256) ∨ ((cls c = 1 ∨ cls c = 2 ∨ cls c = 3) ∧ width c = 128)
    ∨ ((cls c = 4 ∨ cls c = 5 ∨ cls c = 6 ∨ cls c = 7 ∨ cls c = 8) ∧ width c = 64) := by
  unfold cls width
  split_ifs
  · exact .inl ⟨rfl, rfl⟩
  · exact .inr (.inl ⟨by omega, rfl⟩)
  · exact .inr (.inr ⟨by omega, rfl⟩)

/-- The table of means holds each column's group's mean over each segment. -/
theorem meanTable_apply (s : Vec Ideal S64x960 .f32) (n : Vec Ideal S64x1 .f32) (σ : Fin 64) (c : Fin 960) :
    meanTable (F := Ideal) s n (ix2 σ c) = meanOf (fun k => s (ix2 σ k)) (max (n (ix2 σ 0)) 1) c := by
  pointwise [meanTable, k1_pay1, k1_pay2, k1_pay8, k1_pay6, k1_pay10, k1_pay11, k1_pay12, k1_pay13, k1_pay15, k1_pay16, k1_pay17,
    k1_pay18, k1_pay19, k1_pay20]
  have a0 := mask_three σ 0
  have a1 := mask_three σ 1
  have a2 := mask_three σ 2
  have b0 := mask_five σ 0
  have b1 := mask_five σ 1
  have b2 := mask_five σ 2
  have b3 := mask_five σ 3
  have b4 := mask_five σ 4
  simp only [Fin.val_zero, Fin.val_one, Fin.val_two, Fin.reduceFinMk, Fin.isValue, Fin.coe_ofNat_eq_mod, Nat.reduceMod, Nat.reduceAdd] at a0 a1 a2 b0 b1 b2 b3 b4
  simp only [mask_scalar, a0, a1, a2, b0, b1, b2, b3, b4, WordCmp.select_decide, const_256, const_128, const_64]
  unfold meanOf
  rcases cls_width c.val with ⟨h, hw⟩ | ⟨h | h | h, hw⟩ | ⟨h | h | h | h | h, hw⟩ <;> rw [h, hw] <;> simp

/-- The mean of the scalars as the scale uses it. -/
theorem mean_scalars (t : Fin 960 → EReal) (m : EReal) :
    Ideal.div (∑ k : Fin 960, if cls k.val = 0 then t k else 0) (m * ((256 : ℝ) : EReal)) = meanOf t m 0 := rfl

/-- The inverse norm of each segment. -/
theorem scale_apply (s : Vec Ideal S64x960 .f32) (n q : Vec Ideal S64x1 .f32) (σ : Fin 64) :
    k1_pay7 (F := Ideal) s n q (ix2 σ 0) = scaleOf eps (fun k => s (ix2 σ k)) (q (ix2 σ 0)) (max (n (ix2 σ 0)) 1) := by
  pointwise [k1_pay7, k1_pay6, k1_pay1, k1_pay2]
  simp only [mask_scalar, WordCmp.select_decide, const_256, const_eps, mean_scalars]
  rfl

/-- Lane 0 of the table of inverse norms holds the scale, lane 1 what rounding took off it. -/
theorem invTable_zero (s : Vec Ideal S64x960 .f32) (n q : Vec Ideal S64x1 .f32) (σ : Fin 64) :
    invTable (F := Ideal) s n q (ix2 σ 0) = scaleOf eps (fun k => s (ix2 σ k)) (q (ix2 σ 0)) (max (n (ix2 σ 0)) 1) := by
  rw [← scale_apply]
  pointwise [invTable, k1_pay22, k1_pay21]
  rw [show IntOp.cmpi .eq (0#32) 1#32 = 0#1 by decide]
  simp [Scalar.select]
theorem invTable_one (s : Vec Ideal S64x960 .f32) (n q : Vec Ideal S64x1 .f32) (σ : Fin 64) :
    invTable (F := Ideal) s n q (ix2 σ 1)
      = scaleOf eps (fun k => s (ix2 σ k)) (q (ix2 σ 0)) (max (n (ix2 σ 0)) 1) - scaleOf eps (fun k => s (ix2 σ k)) (q (ix2 σ 0)) (max (n (ix2 σ 0)) 1) := by
  rw [← scale_apply]
  pointwise [invTable, k1_pay22, k1_pay21]
  rw [show IntOp.cmpi .eq (1#32) 0#32 = 0#1 by decide]
  simp [Scalar.select]

end Cert.KernelIdeal.Norm

end
-- ==== Proof.Value.Block.lean ====
/- The block the second launch normalises at every grid point, read at an element. -/
module

public import proofs.«01_k».proof.Proof.Run.Apply
public import proofs.«01_k».proof.Proof.Value.Sums
public import Idealize.ShloMosaic.Lib.Pipeline.ValueKit

@[expose] public section

set_option maxRecDepth 16384

noncomputable section

namespace Cert.KernelIdeal.Norm

open Cert.KernelIdeal Cert.KernelIdeal.Gen Cert.Norm Idealize.ShloMosaic Idealize.ShloMosaic.TcCoe

variable (x : Vec Ideal S2000x960 .f32) (b : Vec Ideal S1x2000x1 .i32) (w z : Vec Ideal S1x960 .f32)
  (mean : Vec Ideal S64x960 .f32) (inv : Vec Ideal S64x128 .f32) (r : Fin 2000) (hb : blockSegs b r < 64)

/-- The one-hot matrix of a block's segment numbers, as the second launch computes it. -/
theorem onehot_again (s : Fin 64) : k1_pay23 (F := Ideal) b (ix2 r s) = if blockSegs b r = s.val then (1 : EReal) else 0 := by
  pointwise [k1_pay23]
  exact indicator _ s

/-- A row's entry less its segment's mean. -/
theorem centred_apply (c : Fin 960) : k1_pay24 (F := Ideal) x b mean (ix2 r c) = x (ix2 r c) - mean (ix2 ⟨blockSegs b r, hb⟩ c) := by
  pointwise [k1_pay24]
  simp only [onehot_again]
  rw [onehot_sum]

/-- The scalars of a normalised row. -/
theorem head_apply (v : Vec Ideal S1x256 .f32) (k : Fin 256) : k1_pay26 (F := Ideal) x b mean inv w v (ix2 r k)
    = (x (ix2 r (col0 k)) - mean (ix2 ⟨blockSegs b r, hb⟩ (col0 k)))
        * ((inv (ix2 ⟨blockSegs b r, hb⟩ 0) + inv (ix2 ⟨blockSegs b r, hb⟩ 1)) * w (ix2 0 (col0 k))) + v (ix2 0 k) := by
  rw [← centred_apply]
  pointwise [k1_pay26, k1_pay25]
  simp only [onehot_again]
  rw [onehot_sum, onehot_sum]
  rfl

/-- The vectors of a normalised row. -/
theorem tail_apply (k : Fin 704) : k1_pay27 (F := Ideal) x b mean w (ix2 r k)
    = (x (ix2 r ⟨256 + k.val, by omega⟩) - mean (ix2 ⟨blockSegs b r, hb⟩ ⟨256 + k.val, by omega⟩)) * w (ix2 0 ⟨256 + k.val, by omega⟩) := by
  rw [← centred_apply]
  pointwise [k1_pay27, k1_pay25]

/-- A normalised row, `ρ` its segment's scale and the two lanes of the table of scales `ρ` and `ρ - ρ`. -/
theorem normBlock_apply (ρ : EReal) (hρ : inv (ix2 ⟨blockSegs b r, hb⟩ 0) = ρ) (hρ' : inv (ix2 ⟨blockSegs b r, hb⟩ 1) = ρ - ρ) (c : Fin 960) :
    normBlock (F := Ideal) x b w z mean inv (ix2 r c)
      = applyOut (x (ix2 r c)) (mean (ix2 ⟨blockSegs b r, hb⟩ c)) ρ (w (ix2 0 c)) (z (ix2 0 c)) c := by
  unfold normBlock applyOut
  canon_tiles y h using (View.cover_of_tiledBy (s := S2000x960) _ ![2000, 64] (by sl_kernel_rfl) _)
  · obtain ⟨p, q, rfl⟩ : ∃ (p : Fin 2000) (q : Fin 704), y = ix2 p q := ⟨y 0, y 1, eq_ix2 y⟩
    obtain rfl : r = p := Fin.ext h0
    have hc : c.val = 256 + q.val := h1
    have e : (⟨256 + q.val, by omega⟩ : Fin 960) = c := Fin.ext hc.symm
    rw [if_neg (by omega), tail_apply x b w mean r hb q, e]
  · obtain ⟨p, q, rfl⟩ : ∃ (p : Fin 2000) (q : Fin 256), y = ix2 p q := ⟨y 0, y 1, eq_ix2 y⟩
    obtain rfl : r = p := Fin.ext h0
    have hc : c.val = q.val := h1
    have e : col0 q = c := Fin.ext hc.symm
    have hq := q.isLt
    have hz : View.ld z (Rect.unit (s := S1x960) ![0, 0] S1x256.size inb_S1x960_S1x256_0_0) (ix2 0 q) = z (ix2 0 c) := by
      refine View.ld_unit_apply_of _ _ _ _ _ _ fun a => ?_
      rw [← e]
      fin_cases a <;> simp [col0]
    rw [if_pos (by omega), head_apply x b w mean inv r hb _ q, e, hρ, hρ', hz]

end Cert.KernelIdeal.Norm

end
-- ==== Proof.Value.Result.lean ====
/- What the kernel's result array holds at the end, element by element. -/
module

public import proofs.«01_k».proof.Proof.Value.Host
public import proofs.«01_k».proof.Proof.Value.Total
public import proofs.«01_k».proof.Proof.Value.Tables
public import proofs.«01_k».proof.Proof.Value.Block

@[expose] public section

set_option maxRecDepth 16384

noncomputable section

namespace Cert.KernelIdeal.Norm

open Cert.KernelIdeal Cert.KernelIdeal.Gen Cert.Norm Idealize.ShloMosaic Idealize.ShloMosaic.TcCoe
open Idealize.ShloMosaic.Pipeline (Dat)

/-- Where the blocks of the second launch's windows lie. -/
theorem index1 : ∀ t : Fin cfg1.N, win1_0.index t = ![t.val, 0] ∧ win1_1.index t = ![t.val, 0, 0] ∧ win1_2.index t = ![0, 0]
    ∧ win1_3.index t = ![0, 0] ∧ win1_4.index t = ![0, 0] ∧ win1_5.index t = ![0, 0] ∧ win1_6.index t = ![t.val, 0] :=
  (by decide +kernel : ∀ t : Fin grid1.N, _)

theorem points1 (t : Fin cfg1.N) : t.val < 25 := lt_of_lt_of_eq t.isLt (show cfg1.N = 25 from N_1)

variable (m : (ℓ : Loc nD τ sig) → Buf (Elt Ideal) ℓ) (c : Dev nD)

/-- The rows, the segment numbers, the weights and the biases the kernel is given. -/
def inRows (n : Fin 50000) (k : Fin 960) : EReal := argRows m c (ix2 n k)
def inSegs (n : Fin 50000) : ℕ := (argSegs m c (ix1 n)).toNat
def inWeight (i : Fin 448) : EReal := argWeight m c (ix1 i)
def inBias (i : Fin 448) : EReal := argBias m c (ix1 i)

/-! ## The arrays the second launch reads -/

theorem entry1_rows (n : Fin 50000) (k : Fin 960) : entry1 m c main_arg0 (ix2 n k) = inRows m c n k :=
  congrFun (summed_args m c main_arg0 (by decide)) (ix2 n k)

theorem entry1_segs (t : Fin 25) (r : Fin 2000) : BitVec.toNat (w := 32) (entry1 m c main_v0 (ix3 t r 0)) = inSegs m c (rowOf t r) :=
  congrArg (BitVec.toNat (w := 32)) ((congrFun (summed_of m c main_v0 (by decide +kernel)) (ix3 t r 0)).trans (prepared_segs m c t r))

theorem entry1_weight (k : Fin 960) : entry1 m c main_v9 (ix2 0 k) = weight (inWeight m c) k :=
  (congrFun (summed_of m c main_v9 (by decide +kernel)) (ix2 0 k)).trans (prepared_weight m c k)

theorem entry1_bias (k : Fin 960) :
    entry1 m c main_v13 (ix2 0 k) = (if h : k.val < 256 then inBias m c ⟨k.val, by omega⟩ else 0 : EReal) :=
  (congrFun (summed_of m c main_v13 (by decide +kernel)) (ix2 0 k)).trans (prepared_bias m c k)

theorem entry0_rows (n : Fin 50000) (k : Fin 960) : entry0 m c main_arg0 (ix2 n k) = inRows m c n k :=
  congrFun (prepared_of m c main_arg0 (by decide)) (ix2 n k)

theorem entry0_segs (t : Fin 25) (r : Fin 2000) : BitVec.toNat (w := 32) (entry0 m c main_v0 (ix3 t r 0)) = inSegs m c (rowOf t r) :=
  congrArg (BitVec.toNat (w := 32)) (prepared_segs m c t r)

theorem entry1_sums (s : Fin 64) (k : Fin 960) : entry1 m c main_v14_0 (ix2 s k) = totals (inRows m c) (inSegs m c) s.val k :=
  (congrFun ((summed_arr m c 2).trans (sums_array (entry0 m) c)) (ix2 s k)).trans
    (sums_total (entry0 m) c (inRows m c) (inSegs m c) (entry0_rows m c) (entry0_segs m c) last0.isLt s k)

theorem entry1_counts (s : Fin 64) : entry1 m c main_v14_1 (ix2 s 0) = onSeg (inSegs m c) s.val fun _ => 1 :=
  (congrFun ((summed_arr m c 3).trans (aux_array (entry0 m) c)) (ix2 s 0)).trans
    (counts_total (entry0 m) c (inSegs m c) (entry0_segs m c) last0.isLt s)

theorem entry1_squares (s : Fin 64) : entry1 m c main_v14_1 (ix2 s 1) = onSeg (inSegs m c) s.val (rowSq (inRows m c)) :=
  (congrFun ((summed_arr m c 3).trans (aux_array (entry0 m) c)) (ix2 s 1)).trans
    (squares_total (entry0 m) c (inRows m c) (inSegs m c) (entry0_rows m c) (entry0_segs m c) last0.isLt s)

/-! ## Its blocks -/

theorem blk1_rows (t : Fin cfg1.N) (r : Fin 2000) (k : Fin 960) :
    blk1 (entry1 m) c 0 t (ix2 r k) = inRows m c (rowOf ⟨t.val, points1 t⟩ r) k := by
  refine Eq.trans ?_ (entry1_rows m c _ k)
  blk_ext [blk1, index1 t, rowOf]

theorem blk1_segs (t : Fin cfg1.N) (r : Fin 2000) :
    blockSegs (blk1 (entry1 m) c 1 t) r = inSegs m c (rowOf ⟨t.val, points1 t⟩ r) := by
  refine Eq.trans (congrArg (BitVec.toNat (w := 32)) ?_) (entry1_segs m c ⟨t.val, points1 t⟩ r)
  blk_ext [blk1, index1 t]

theorem blk1_sums (t : Fin cfg1.N) (s : Fin 64) (k : Fin 960) :
    blk1 (entry1 m) c 2 t (ix2 s k) = totals (inRows m c) (inSegs m c) s.val k := by
  refine Eq.trans ?_ (entry1_sums m c s k)
  blk_ext [blk1, index1 t]

theorem blk1_weight (t : Fin cfg1.N) (k : Fin 960) : blk1 (entry1 m) c 4 t (ix2 0 k) = weight (inWeight m c) k := by
  refine Eq.trans ?_ (entry1_weight m c k)
  blk_ext [blk1, index1 t]

theorem blk1_bias (t : Fin cfg1.N) (k : Fin 960) :
    blk1 (entry1 m) c 5 t (ix2 0 k) = (if h : k.val < 256 then inBias m c ⟨k.val, by omega⟩ else 0 : EReal) := by
  refine Eq.trans ?_ (entry1_bias m c k)
  blk_ext [blk1, index1 t]

/-- The column of segment counts. -/
theorem counts_col (t : Fin cfg1.N) (s : Fin 64) :
    countCol (blk1 (entry1 m) c 3 t) (ix2 s 0) = onSeg (inSegs m c) s.val fun _ => 1 := by
  refine Eq.trans ?_ (entry1_counts m c s)
  refine (View.ld_unit_apply_of _ _ _ _ _ (ix2 s 0) fun a => ?_).trans ?_
  · fin_cases a <;> simp
  · blk_ext [blk1, index1 t]

/-- The column of sums of squares. -/
theorem squares_col (t : Fin cfg1.N) (s : Fin 64) :
    squareCol (blk1 (entry1 m) c 3 t) (ix2 s 0) = onSeg (inSegs m c) s.val (rowSq (inRows m c)) := by
  refine Eq.trans ?_ (entry1_squares m c s)
  refine (View.ld_unit_apply_of _ _ _ _ _ (ix2 s 1) fun a => ?_).trans ?_
  · fin_cases a <;> simp
  · blk_ext [blk1, index1 t]

/-! ## The result -/

variable (hb : ∀ n, inSegs m c n < 64)

include hb

/-- Every block the second launch writes holds its rows' elements of the result. -/
theorem block_apply (t : Fin cfg1.N) (r : Fin 2000) (k : Fin 960) :
    normBlock (blk1 (entry1 m) c 0 t) (blk1 (entry1 m) c 1 t) (blk1 (entry1 m) c 4 t) (blk1 (entry1 m) c 5 t) (means (entry1 m) c)
        (invs (entry1 m) c) (ix2 r k)
      = kerOut (inRows m c) (inSegs m c) eps (inWeight m c) (inBias m c) (rowOf ⟨t.val, points1 t⟩ r) k := by
  have hs : blockSegs (blk1 (entry1 m) c 1 t) r < 64 := by rw [blk1_segs]; exact hb _
  refine (normBlock_apply _ _ _ _ _ _ r hs _ (invTable_zero _ _ _ _) (invTable_one _ _ _ _) k).trans ?_
  unfold means kerOut
  rw [meanTable_apply, blk1_rows, blk1_weight, blk1_bias]
  simp only [blk1_sums, counts_col, squares_col, blk1_segs]
  rfl

/-- The kernel's result. -/
theorem result_array : (final m c (Proc.devRef .tc main_v15) : FVec Ideal S50000x960 .f32)
    = fun i => kerOut (inRows m c) (inSegs m c) eps (inWeight m c) (inBias m c) (i 0) (i 1) := by
  refine (final_arr m c 6).trans ((dat1 (entry1 m) c).arrAt_eq_of_covers 6 _ (by decide +kernel) fun t _ y => ?_)
  blk_simp
  rw [dat1_after6]
  obtain ⟨r, k, rfl⟩ : ∃ (r : Fin 2000) (k : Fin 960), y = ix2 r k := ⟨y 0, y 1, eq_ix2 y⟩
  have e : (win1_6.blk t).view.emb (ix2 r k) = ix2 (rowOf ⟨t.val, points1 t⟩ r) k := by blk_ext [index1 t, rowOf]
  rw [e]
  exact block_apply m c hb t r k

end Cert.KernelIdeal.Norm

end
-- ==== Proof.Value.InRange.lean ====
/- What the precondition says: the first 256 columns of the rows are finite, and every segment number is below 64. -/
module

public import proofs.«01_k».proof.Proof.Gen.Pre_in_range
public import proofs.«01_k».proof.Proof.Math.Spec
public import Idealize.ShloMosaic.Lib.ReduceAll
public import Idealize.ShloMosaic.Lib.WordCmp
public import Idealize.ShloMosaic.Lib.IdealHost

@[expose] public section

noncomputable section

namespace Cert.Norm

open Cert.Pre_in_range Idealize.ShloMosaic

/-- The constant the magnitudes are compared with is `+∞`. -/
theorem const_inf : Ideal.ofBits .f32 0x7F800000#32 = ⊤ := by simp [Ideal.ofBits, Ideal.ieee]

/-- An extended real of magnitude less than `+∞` is a real. -/
theorem real_of_abs_lt (v : EReal) (h : max v (-v) < ⊤) : ∃ r : ℝ, v = (r : EReal) := by
  rw [max_lt_iff] at h
  induction v with
  | bot => simp at h
  | top => simp at h
  | coe r => exact ⟨r, rfl⟩

/-- A word that is at least 0 and less than 64, both read signed, is less than 64 read unsigned. -/
theorem toNat_lt_of_signed (b : BitVec 32) (h0 : (0#32).toInt ≤ b.toInt) (h1 : b.toInt < (64#32).toInt) : b.toNat < 64 := by
  have e0 : (0#32).toInt = 0 := by decide
  have e1 : (64#32).toInt = 64 := by decide
  rw [e0] at h0
  rw [e1] at h1
  rw [BitVec.toInt_eq_toNat_cond] at h0 h1
  have := b.isLt
  split at h0 <;> omega

variable (x0 : FVec Ideal S50000x960 .f32) (x1 : IVec S50000 32) (x2 x3 : FVec Ideal S448 .f32)

/-- The slice the predicate tests reads the first 256 columns. -/
theorem slice_apply (h : S50000x960.Slices ![0, 0] S50000x256) (n : Fin 50000) (k : Fin 256) :
    extractStridedSlice S50000x256 ![0, 0] x0 h (ix2 n k) = x0 (ix2 n (col0 k)) := by
  pointwise [col0]

/-- Where the predicate is 1, every entry of the first 256 columns is a real and every segment number is below 64. -/
theorem of_in_range (h : fn (F := Ideal) x0 x1 x2 x3 = fun _ => 1#1) :
    (∀ n k, ∃ r : ℝ, (x0 (ix2 n (col0 k)) : EReal) = (r : EReal)) ∧ ∀ n, (x1 (ix1 n)).toNat < 64 := by
  haveI : Subsingleton S_.Idx := ⟨fun a b => funext fun i => i.elim0⟩
  have h := congrFun h (fun i => i.elim0)
  obtain ⟨ha, hb⟩ := IntOp.andi_eq_one.1 h
  refine ⟨fun n k => ?_, fun n => ?_⟩
  · have e := Host.reduce_andi_all _ _ _ _ _ ha (ix2 n k)
    have e' : Ideal.cmp .olt (max (x0 (ix2 n (col0 k)) : EReal) (-(x0 (ix2 n (col0 k)) : EReal)))
        (Ideal.ofBits .f32 0x7F800000#32) = 1#1 := by
      rw [← slice_apply x0 Cert.Pre_in_range.Gen.facts.slices_S50000x960_S50000x256_0_0 n k]
      exact e
    rw [const_inf] at e'
    exact real_of_abs_lt _ ((WordCmp.ofBool_decide_eq_one_iff _).1 e')
  · have e := Host.reduce_andi_all _ _ _ _ _ hb (ix1 n)
    obtain ⟨e0, e1⟩ := IntOp.andi_eq_one.1 e
    exact toNat_lt_of_signed _ ((WordCmp.ofBool_decide_eq_one_iff _).1 e0) ((WordCmp.ofBool_decide_eq_one_iff _).1 e1)

end Cert.Norm

end
-- ==== Proof.lean ====
/- The certificate's claims: the runs of the kernel, of its idealization and of the reference, and the equality of the
   idealization's result with the reference's, element by element, where the precondition holds. -/
module

public import proofs.«01_k».proof.Defs
public import proofs.«01_k».proof.Proof.Gen.ReferenceIdeal.Run
public import proofs.«01_k».proof.Proof.Gen.ReferenceIdeal.Read
public import proofs.«01_k».proof.Proof.Gen.Pre_in_range
public import proofs.«01_k».proof.Proof.Run.Main
public import proofs.«01_k».proof.Proof.Run.Printed
public import proofs.«01_k».proof.Proof.Math.Equation
public import proofs.«01_k».proof.Proof.Ref.Value
public import proofs.«01_k».proof.Proof.Value.Result
public import proofs.«01_k».proof.Proof.Value.InRange
public import Idealize.ShloMosaic.Lib.Claim

@[expose] public section

noncomputable section

namespace Cert.Proof

open Idealize.ShloMosaic Idealize.ShloMosaic.TcCoe Idealize.SL.Sem Cert.Norm

theorem frame_p : Cert.quiescent_Kernel := fun m ρ _ => Cert.Kernel.Norm.frame m ρ
theorem frame_pi : Cert.quiescent_KernelIdeal := fun m ρ _ => Cert.KernelIdeal.Norm.frame m ρ
theorem frame_pi_pre : Cert.quiescent_KernelIdeal_pre_in_range := fun m ρ _ => Cert.KernelIdeal.Norm.frame m ρ

/-- The reference runs and leaves its arguments unchanged; it has no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_in_range := fun m ρ _ => frame_ri m ρ trivial

section
open Cert.KernelIdeal

variable (m : (ℓ : Loc nD τ sig) → Buf (Elt Ideal) ℓ)

/-- The array the kernel leaves is the reference's result at the kernel's own arguments. -/
theorem result_eq (h : Cert.Pre_KernelIdeal_in_range m) (c : Dev nD) :
    (Cert.KernelIdeal.Norm.final m c (Proc.devRef .tc main_v15) : FVec Ideal S50000x960 .f32)
      = Cert.ReferenceIdeal.Read.val_main_v111 (F := Ideal) (m ((c.tc : Thread nD τ).loc main_arg0))
          (m ((c.tc : Thread nD τ).loc main_arg1)) (m ((c.tc : Thread nD τ).loc main_arg2)) (m ((c.tc : Thread nD τ).loc main_arg3)) := by
  obtain ⟨hx, hb⟩ := of_in_range _ _ _ _ (h c)
  refine (Cert.KernelIdeal.Norm.result_array m c hb).trans (funext fun i => ?_)
  obtain ⟨n, k, rfl⟩ : ∃ (n : Fin 50000) (k : Fin 960), i = ix2 n k := ⟨i 0, i 1, eq_ix2 i⟩
  exact (kerOut_eq eps eps_pos _ _ hx n k).trans (Cert.ReferenceIdeal.Norm.result_apply _ _ _ _ hb n k).symm

/-- The kernel's run: its result is the reference's at its arguments, which end unchanged. -/
theorem kernel_run (ρ : Dev nD → PrngReg) (h : Cert.Pre_KernelIdeal_in_range m) :
    θ_run (defs (F := Ideal)) (onTc (τ := τ) (main (F := Ideal))) ⟨m, fun _ => 0, ρ⟩ (fun r => ∀ c : Dev nD,
      r.2.mem ((c.tc : Thread nD τ).loc main_v15)
        = Cert.ReferenceIdeal.Read.val_main_v111 (F := Ideal) (m ((c.tc : Thread nD τ).loc main_arg0))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr => fun c =>
    ⟨(Cert.KernelIdeal.Norm.run_reads m (hr.1.1 c) main_v15 (by decide)).trans (result_eq m h c), hr.2.1 c⟩)
    (θ_run_and (Cert.KernelIdeal.Norm.run_final m ρ) (Cert.KernelIdeal.Norm.frame m ρ))

end

/-- From memories agreeing on the arguments, where the precondition holds, both programs end with the same result. -/
theorem algebraic : Cert.algebraic_KernelIdeal_ReferenceIdeal_pre_in_range := by
  intro m ρ m' ρ' h hagree
  refine ⟨_, kernel_run m ρ h, (θ_run Cert.ReferenceIdeal.defs _ _).mono (fun _ hr c => ⟨(hr c).1.trans ?_, (hr c).2⟩)
    (Cert.ReferenceIdeal.Value.run (F := Ideal) m' ρ')⟩
  obtain ⟨e0, e1, e2, e3⟩ := hagree c
  rw [Cert.ReferenceIdeal.Read.val_main_v111_eq, e0, e1, e2, e3]

theorem claim : Cert.Claim :=
  ⟨Cert.Kernel.Gen.facts, Cert.KernelIdeal.Gen.facts, Cert.ReferenceIdeal.Gen.facts, Cert.Pre_in_range.Gen.facts,
    frame_p, frame_pi, frame_pi_pre, frame_ri, frame_ri_pre, trivial, algebraic⟩

end Cert.Proof

end
